-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S50x64x48x48 : Shape := ⟨4, ![50, 64, 48, 48]⟩
abbrev S64x384x1x1 : Shape := ⟨4, ![64, 384, 1, 1]⟩
abbrev S64x128x3x3 : Shape := ⟨4, ![64, 128, 3, 3]⟩
abbrev S_ : Shape := ⟨0, ![]⟩

class Facts : Prop where
  bcast_S_S50x64x48x48 : S_.BroadcastsInDim S50x64x48x48 (![] : Fin 0 → Fin S50x64x48x48.rank)

variable [Facts]

def fn {F : FTy → Type} [FloatOps F] (main_arg0 : FVec F S50x64x48x48 .f32) (main_arg1 : FVec F S64x384x1x1 .f32) (main_arg2 : FVec F S64x128x3x3 .f32) : IVec S50x64x48x48 1 :=
  let main_v0 : FVec F S50x64x48x48 .f32 := Host.absf main_arg0
  let main_cst : FVec F S_ .f32 := constant S_ .f32 0x5C800000#32
  let main_v1 : FVec F S50x64x48x48 .f32 := broadcastInDim S50x64x48x48 ![] bcast_S_S50x64x48x48 main_cst
  let main_v2 : IVec S50x64x48x48 1 := cmpf .ole main_v0 main_v1
  main_v2
-- ==== Kernel.lean ====
abbrev S50x64x48x48 : Shape := ⟨4, ![50, 64, 48, 48]⟩
abbrev S64x384x1x1 : Shape := ⟨4, ![64, 384, 1, 1]⟩
abbrev S64x128x3x3 : Shape := ⟨4, ![64, 128, 3, 3]⟩
abbrev S2x25x64x12x4x12x4 : Shape := ⟨7, ![2, 25, 64, 12, 4, 12, 4]⟩
abbrev S2x12x12x64x4x4x25 : Shape := ⟨7, ![2, 12, 12, 64, 4, 4, 25]⟩
abbrev S2x12x12x1024x25 : Shape := ⟨5, ![2, 12, 12, 1024, 25]⟩
abbrev S288x1024x25 : Shape := ⟨3, ![288, 1024, 25]⟩
abbrev S_ : Shape := ⟨0, ![]⟩
abbrev S288x25 : Shape := ⟨2, ![288, 25]⟩
abbrev S288x1x25 : Shape := ⟨3, ![288, 1, 25]⟩
abbrev S2x12x12x1x25 : Shape := ⟨5, ![2, 12, 12, 1, 25]⟩
abbrev S50x64x0x48 : Shape := ⟨4, ![50, 64, 0, 48]⟩
abbrev S50x64x48x2 : Shape := ⟨4, ![50, 64, 48, 2]⟩
abbrev S50x64x48x46 : Shape := ⟨4, ![50, 64, 48, 46]⟩
abbrev S50x64x2x48 : Shape := ⟨4, ![50, 64, 2, 48]⟩
abbrev S50x64x46x48 : Shape := ⟨4, ![50, 64, 46, 48]⟩
abbrev S50x64x48x0 : Shape := ⟨4, ![50, 64, 48, 0]⟩
abbrev S64x384 : Shape := ⟨2, ![64, 384]⟩
abbrev S384x64 : Shape := ⟨2, ![384, 64]⟩
abbrev S2x12x12x400x64 : Shape := ⟨5, ![2, 12, 12, 400, 64]⟩
abbrev S1x1x1x1024x25 : Shape := ⟨5, ![1, 1, 1, 1024, 25]⟩
abbrev S1x1x1x1x25 : Shape := ⟨5, ![1, 1, 1, 1, 25]⟩
abbrev S1x1x1x400x64 : Shape := ⟨5, ![1, 1, 1, 400, 64]⟩
abbrev S1024x25 : Shape := ⟨2, ![1024, 25]⟩
abbrev S1024x225 : Shape := ⟨2, ![1024, 225]⟩
abbrev S1x25 : Shape := ⟨2, ![1, 25]⟩
abbrev S1x225 : Shape := ⟨2, ![1, 225]⟩
abbrev S25x1024 : Shape := ⟨2, ![25, 1024]⟩
abbrev S25x225 : Shape := ⟨2, ![25, 225]⟩
abbrev S25 : Shape := ⟨1, ![25]⟩
abbrev S25x1 : Shape := ⟨2, ![25, 1]⟩
abbrev S25x1x225 : Shape := ⟨3, ![25, 1, 225]⟩
abbrev S25x6x225 : Shape := ⟨3, ![25, 6, 225]⟩
abbrev S150x225 : Shape := ⟨2, ![150, 225]⟩
abbrev S1024x150 : Shape := ⟨2, ![1024, 150]⟩
abbrev S64x16x25x6 : Shape := ⟨4, ![64, 16, 25, 6]⟩
abbrev S25x16x6x64 : Shape := ⟨4, ![25, 16, 6, 64]⟩
abbrev S400x384 : Shape := ⟨2, ![400, 384]⟩
abbrev S400x64 : Shape := ⟨2, ![400, 64]⟩
abbrev S2x12x12x25x4x4x64 : Shape := ⟨7, ![2, 12, 12, 25, 4, 4, 64]⟩
abbrev S50x128x48x48 : Shape := ⟨4, ![50, 128, 48, 48]⟩
abbrev S50x128x50x50 : Shape := ⟨4, ![50, 128, 50, 50]⟩
abbrev S1x128x50x50 : Shape := ⟨4, ![1, 128, 50, 50]⟩
abbrev S1x64x48x48 : Shape := ⟨4, ![1, 64, 48, 48]⟩
abbrev S128x50x50 : Shape := ⟨3, ![128, 50, 50]⟩
abbrev S64x2304 : Shape := ⟨2, ![64, 2304]⟩
abbrev S64x128x1x1 : Shape := ⟨4, ![64, 128, 1, 1]⟩
abbrev S64x128 : Shape := ⟨2, ![64, 128]⟩
abbrev S128x48x48 : Shape := ⟨3, ![128, 48, 48]⟩
abbrev S128x2304 : Shape := ⟨2, ![128, 2304]⟩
abbrev S64x48x48 : Shape := ⟨3, ![64, 48, 48]⟩

abbrev nBuf : Space → Nat
  | .hbm => 68
  | .vmem => 44
  | .smem => 0
  | _ => 0

abbrev bufTy : (tb : Table) → Fin (tcTables nBuf tb) → BufTy
  | .hbm, ⟨0, _⟩ => ⟨S50x64x48x48, .f32⟩
  | .hbm, ⟨1, _⟩ => ⟨S64x384x1x1, .f32⟩
  | .hbm, ⟨2, _⟩ => ⟨S64x128x3x3, .f32⟩
  | .hbm, ⟨3, _⟩ => ⟨S2x25x64x12x4x12x4, .f32⟩
  | .hbm, ⟨4, _⟩ => ⟨S2x12x12x64x4x4x25, .f32⟩
  | .hbm, ⟨5, _⟩ => ⟨S2x12x12x1024x25, .f32⟩
  | .hbm, ⟨6, _⟩ => ⟨S288x1024x25, .f32⟩
  | .hbm, ⟨7, _⟩ => ⟨S288x1024x25, .f32⟩
  | .hbm, ⟨8, _⟩ => ⟨S_, .f32⟩
  | .hbm, ⟨9, _⟩ => ⟨S288x25, .f32⟩
  | .hbm, ⟨10, _⟩ => ⟨S288x1x25, .f32⟩
  | .hbm, ⟨11, _⟩ => ⟨S2x12x12x1x25, .f32⟩
  | .hbm, ⟨12, _⟩ => ⟨S50x64x48x48, .f32⟩
  | .hbm, ⟨13, _⟩ => ⟨S50x64x0x48, .f32⟩
  | .hbm, ⟨14, _⟩ => ⟨S50x64x48x48, .f32⟩
  | .hbm, ⟨15, _⟩ => ⟨S50x64x48x2, .f32⟩
  | .hbm, ⟨16, _⟩ => ⟨S50x64x48x46, .f32⟩
  | .hbm, ⟨17, _⟩ => ⟨S50x64x48x48, .f32⟩
  | .hbm, ⟨18, _⟩ => ⟨S2x25x64x12x4x12x4, .f32⟩
  | .hbm, ⟨19, _⟩ => ⟨S2x12x12x64x4x4x25, .f32⟩
  | .hbm, ⟨20, _⟩ => ⟨S2x12x12x1024x25, .f32⟩
  | .hbm, ⟨21, _⟩ => ⟨S288x1024x25, .f32⟩
  | .hbm, ⟨22, _⟩ => ⟨S288x1024x25, .f32⟩
  | .hbm, ⟨23, _⟩ => ⟨S_, .f32⟩
  | .hbm, ⟨24, _⟩ => ⟨S288x25, .f32⟩
  | .hbm, ⟨25, _⟩ => ⟨S288x1x25, .f32⟩
  | .hbm, ⟨26, _⟩ => ⟨S2x12x12x1x25, .f32⟩
  | .hbm, ⟨27, _⟩ => ⟨S50x64x2x48, .f32⟩
  | .hbm, ⟨28, _⟩ => ⟨S50x64x46x48, .f32⟩
  | .hbm, ⟨29, _⟩ => ⟨S50x64x48x48, .f32⟩
  | .hbm, ⟨30, _⟩ => ⟨S50x64x48x48, .f32⟩
  | .hbm, ⟨31, _⟩ => ⟨S50x64x48x0, .f32⟩
  | .hbm, ⟨32, _⟩ => ⟨S50x64x48x48, .f32⟩
  | .hbm, ⟨33, _⟩ => ⟨S2x25x64x12x4x12x4, .f32⟩
  | .hbm, ⟨34, _⟩ => ⟨S2x12x12x64x4x4x25, .f32⟩
  | .hbm, ⟨35, _⟩ => ⟨S2x12x12x1024x25, .f32⟩
  | .hbm, ⟨36, _⟩ => ⟨S288x1024x25, .f32⟩
  | .hbm, ⟨37, _⟩ => ⟨S288x1024x25, .f32⟩
  | .hbm, ⟨38, _⟩ => ⟨S_, .f32⟩
  | .hbm, ⟨39, _⟩ => ⟨S288x25, .f32⟩
  | .hbm, ⟨40, _⟩ => ⟨S288x1x25, .f32⟩
  | .hbm, ⟨41, _⟩ => ⟨S2x12x12x1x25, .f32⟩
  | .hbm, ⟨42, _⟩ => ⟨S50x64x2x48, .f32⟩
  | .hbm, ⟨43, _⟩ => ⟨S50x64x46x48, .f32⟩
  | .hbm, ⟨44, _⟩ => ⟨S50x64x48x48, .f32⟩
  | .hbm, ⟨45, _⟩ => ⟨S50x64x48x2, .f32⟩
  | .hbm, ⟨46, _⟩ => ⟨S50x64x48x46, .f32⟩
  | .hbm, ⟨47, _⟩ => ⟨S50x64x48x48, .f32⟩
  | .hbm, ⟨48, _⟩ => ⟨S2x25x64x12x4x12x4, .f32⟩
  | .hbm, ⟨49, _⟩ => ⟨S2x12x12x64x4x4x25, .f32⟩
  | .hbm, ⟨50, _⟩ => ⟨S2x12x12x1024x25, .f32⟩
  | .hbm, ⟨51, _⟩ => ⟨S288x1024x25, .f32⟩
  | .hbm, ⟨52, _⟩ => ⟨S288x1024x25, .f32⟩
  | .hbm, ⟨53, _⟩ => ⟨S_, .f32⟩
  | .hbm, ⟨54, _⟩ => ⟨S288x25, .f32⟩
  | .hbm, ⟨55, _⟩ => ⟨S288x1x25, .f32⟩
  | .hbm, ⟨56, _⟩ => ⟨S2x12x12x1x25, .f32⟩
  | .hbm, ⟨57, _⟩ => ⟨S64x384, .f32⟩
  | .hbm, ⟨58, _⟩ => ⟨S384x64, .f32⟩
  | .hbm, ⟨59, _⟩ => ⟨S2x12x12x400x64, .f32⟩
  | .hbm, ⟨60, _⟩ => ⟨S2x12x12x25x4x4x64, .f32⟩
  | .hbm, ⟨61, _⟩ => ⟨S2x25x64x12x4x12x4, .f32⟩
  | .hbm, ⟨62, _⟩ => ⟨S50x64x48x48, .f32⟩
  | .hbm, ⟨63, _⟩ => ⟨S50x128x48x48, .f32⟩
  | .hbm, ⟨64, _⟩ => ⟨S_, .i32⟩
  | .hbm, ⟨65, _⟩ => ⟨S_, .f32⟩
  | .hbm, ⟨66, _⟩ => ⟨S50x128x50x50, .f32⟩
  | .hbm, ⟨67, _⟩ => ⟨S50x64x48x48, .f32⟩
  | .local _ .vmem, ⟨0, _⟩ => ⟨S1x1x1x1024x25, .f32⟩
  | .local _ .vmem, ⟨1, _⟩ => ⟨S1x1x1x1024x25, .f32⟩
  | .local _ .vmem, ⟨2, _⟩ => ⟨S1x1x1x1024x25, .f32⟩
  | .local _ .vmem, ⟨3, _⟩ => ⟨S1x1x1x1024x25, .f32⟩
  | .local _ .vmem, ⟨4, _⟩ => ⟨S1x1x1x1024x25, .f32⟩
  | .local _ .vmem, ⟨5, _⟩ => ⟨S1x1x1x1024x25, .f32⟩
  | .local _ .vmem, ⟨6, _⟩ => ⟨S1x1x1x1024x25, .f32⟩
  | .local _ .vmem, ⟨7, _⟩ => ⟨S1x1x1x1024x25, .f32⟩
  | .local _ .vmem, ⟨8, _⟩ => ⟨S1x1x1x1024x25, .f32⟩
  | .local _ .vmem, ⟨9, _⟩ => ⟨S1x1x1x1024x25, .f32⟩
  | .local _ .vmem, ⟨10, _⟩ => ⟨S1x1x1x1024x25, .f32⟩
  | .local _ .vmem, ⟨11, _⟩ => ⟨S1x1x1x1024x25, .f32⟩
  | .local _ .vmem, ⟨12, _⟩ => ⟨S1x1x1x1024x25, .f32⟩
  | .local _ .vmem, ⟨13, _⟩ => ⟨S1x1x1x1024x25, .f32⟩
  | .local _ .vmem, ⟨14, _⟩ => ⟨S1x1x1x1024x25, .f32⟩
  | .local _ .vmem, ⟨15, _⟩ => ⟨S1x1x1x1024x25, .f32⟩
  | .local _ .vmem, ⟨16, _⟩ => ⟨S1x1x1x1024x25, .f32⟩
  | .local _ .vmem, ⟨17, _⟩ => ⟨S1x1x1x1024x25, .f32⟩
  | .local _ .vmem, ⟨18, _⟩ => ⟨S1x1x1x1x25, .f32⟩
  | .local _ .vmem, ⟨19, _⟩ => ⟨S1x1x1x1x25, .f32⟩
  | .local _ .vmem, ⟨20, _⟩ => ⟨S1x1x1x1x25, .f32⟩
  | .local _ .vmem, ⟨21, _⟩ => ⟨S1x1x1x1x25, .f32⟩
  | .local _ .vmem, ⟨22, _⟩ => ⟨S1x1x1x1x25, .f32⟩
  | .local _ .vmem, ⟨23, _⟩ => ⟨S1x1x1x1x25, .f32⟩
  | .local _ .vmem, ⟨24, _⟩ => ⟨S1x1x1x1x25, .f32⟩
  | .local _ .vmem, ⟨25, _⟩ => ⟨S1x1x1x1x25, .f32⟩
  | .local _ .vmem, ⟨26, _⟩ => ⟨S1x1x1x1x25, .f32⟩
  | .local _ .vmem, ⟨27, _⟩ => ⟨S1x1x1x1x25, .f32⟩
  | .local _ .vmem, ⟨28, _⟩ => ⟨S1x1x1x1x25, .f32⟩
  | .local _ .vmem, ⟨29, _⟩ => ⟨S1x1x1x1x25, .f32⟩
  | .local _ .vmem, ⟨30, _⟩ => ⟨S1x1x1x1x25, .f32⟩
  | .local _ .vmem, ⟨31, _⟩ => ⟨S1x1x1x1x25, .f32⟩
  | .local _ .vmem, ⟨32, _⟩ => ⟨S1x1x1x1x25, .f32⟩
  | .local _ .vmem, ⟨33, _⟩ => ⟨S1x1x1x1x25, .f32⟩
  | .local _ .vmem, ⟨34, _⟩ => ⟨S1x1x1x1x25, .f32⟩
  | .local _ .vmem, ⟨35, _⟩ => ⟨S1x1x1x1x25, .f32⟩
  | .local _ .vmem, ⟨36, _⟩ => ⟨S384x64, .f32⟩
  | .local _ .vmem, ⟨37, _⟩ => ⟨S1x1x1x400x64, .f32⟩
  | .local _ .vmem, ⟨38, _⟩ => ⟨S1x1x1x400x64, .f32⟩
  | .local _ .vmem, ⟨39, _⟩ => ⟨S1x128x50x50, .f32⟩
  | .local _ .vmem, ⟨40, _⟩ => ⟨S1x128x50x50, .f32⟩
  | .local _ .vmem, ⟨41, _⟩ => ⟨S64x128x3x3, .f32⟩
  | .local _ .vmem, ⟨42, _⟩ => ⟨S1x64x48x48, .f32⟩
  | .local _ .vmem, ⟨43, _⟩ => ⟨S1x64x48x48, .f32⟩
  | _, _ => ⟨S50x64x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_call3_v0 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg19_1 : Ref sig .tc := ⟨.vmem, 38, rfl⟩
abbrev cc1_stg0_0 : Ref sig .tc := ⟨.vmem, 39, rfl⟩
abbrev cc1_stg0_1 : Ref sig .tc := ⟨.vmem, 40, rfl⟩
abbrev cc1_stg1_0 : Ref sig .tc := ⟨.vmem, 41, rfl⟩
abbrev cc1_stg2_0 : Ref sig .tc := ⟨.vmem, 42, rfl⟩
abbrev cc1_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem19_1 : DmaSem sig := 38
abbrev cc1_sem0_0 : DmaSem sig := 39
abbrev cc1_sem0_1 : DmaSem sig := 40
abbrev cc1_sem1_0 : DmaSem sig := 41
abbrev cc1_sem2_0 : DmaSem sig := 42
abbrev cc1_sem2_1 : DmaSem sig := 43

abbrev nD : Nat := 1
abbrev τ : Topo := Topo.v7x

variable {F : FTy → Type} [FloatOps F]

abbrev grid0 : Pipeline.Grid := ⟨3, ![2, 12, 12], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c1_i32_6 : BitVec 32 := 1#32
  let v13 : BitVec 32 := Scalar.subi v12 c1_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c1_i32_6 : BitVec 32 := 1#32
  let v13 : BitVec 32 := Scalar.subi v12 c1_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c1_i32 : BitVec 32 := 1#32
  let v1 : BitVec 32 := Scalar.subi v0 c1_i32
  let c12_i32_0 : BitVec 32 := 12#32
  let c0_i32 : BitVec 32 := 0#32
  let v2 : BitVec 1 := Scalar.cmpi .eq c12_i32_0 c0_i32
  let c1_i32_1 : BitVec 32 := 1#32
  let v3 : BitVec 32 := Scalar.select v2 c1_i32_1 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c1_i32 : BitVec 32 := 1#32
  let v1 : BitVec 32 := Scalar.subi v0 c1_i32
  let c12_i32_0 : BitVec 32 := 12#32
  let c0_i32 : BitVec 32 := 0#32
  let v2 : BitVec 1 := Scalar.cmpi .eq c12_i32_0 c0_i32
  let c1_i32_1 : BitVec 32 := 1#32
  let v3 : BitVec 32 := Scalar.select v2 c1_i32_1 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c1_i32 : BitVec 32 := 1#32
  let v1 : BitVec 32 := Scalar.subi v0 c1_i32
  let c12_i32_0 : BitVec 32 := 12#32
  let c0_i32 : BitVec 32 := 0#32
  let v2 : BitVec 1 := Scalar.cmpi .eq c12_i32_0 c0_i32
  let c1_i32_1 : BitVec 32 := 1#32
  let v3 : BitVec 32 := Scalar.select v2 c1_i32_1 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c1_i32_6 : BitVec 32 := 1#32
  let v13 : BitVec 32 := Scalar.subi v12 c1_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c1_i32_6 : BitVec 32 := 1#32
  let v13 : BitVec 32 := Scalar.subi v12 c1_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_13 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_14 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let v1 : BitVec 32 := Scalar.subi v0 c0_i32
  let c12_i32_0 : BitVec 32 := 12#32
  let c0_i32_1 : BitVec 32 := 0#32
  let v2 : BitVec 1 := Scalar.cmpi .eq c12_i32_0 c0_i32_1
  let c1_i32 : BitVec 32 := 1#32
  let v3 : BitVec 32 := Scalar.select v2 c1_i32 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c1_i32_6 : BitVec 32 := 1#32
  let v13 : BitVec 32 := Scalar.subi v12 c1_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_15 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c1_i32 : BitVec 32 := 1#32
  let v1 : BitVec 32 := Scalar.subi v0 c1_i32
  let c12_i32_0 : BitVec 32 := 12#32
  let c0_i32 : BitVec 32 := 0#32
  let v2 : BitVec 1 := Scalar.cmpi .eq c12_i32_0 c0_i32
  let c1_i32_1 : BitVec 32 := 1#32
  let v3 : BitVec 32 := Scalar.select v2 c1_i32_1 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_16 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c1_i32 : BitVec 32 := 1#32
  let v1 : BitVec 32 := Scalar.subi v0 c1_i32
  let c12_i32_0 : BitVec 32 := 12#32
  let c0_i32 : BitVec 32 := 0#32
  let v2 : BitVec 1 := Scalar.cmpi .eq c12_i32_0 c0_i32
  let c1_i32_1 : BitVec 32 := 1#32
  let v3 : BitVec 32 := Scalar.select v2 c1_i32_1 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c0_i32_6 : BitVec 32 := 0#32
  let v13 : BitVec 32 := Scalar.subi v12 c0_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_17 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c1_i32 : BitVec 32 := 1#32
  let v1 : BitVec 32 := Scalar.subi v0 c1_i32
  let c12_i32_0 : BitVec 32 := 12#32
  let c0_i32 : BitVec 32 := 0#32
  let v2 : BitVec 1 := Scalar.cmpi .eq c12_i32_0 c0_i32
  let c1_i32_1 : BitVec 32 := 1#32
  let v3 : BitVec 32 := Scalar.select v2 c1_i32_1 c12_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c12_i32_5 : BitVec 32 := 12#32
  let v12 : BitVec 32 := Scalar.addi arg2 c12_i32_5
  let c1_i32_6 : BitVec 32 := 1#32
  let v13 : BitVec 32 := Scalar.subi v12 c1_i32_6
  let c12_i32_7 : BitVec 32 := 12#32
  let c0_i32_8 : BitVec 32 := 0#32
  let v14 : BitVec 1 := Scalar.cmpi .eq c12_i32_7 c0_i32_8
  let c1_i32_9 : BitVec 32 := 1#32
  let v15 : BitVec 32 := Scalar.select v14 c1_i32_9 c12_i32_7
  let v16 : BitVec 32 := Scalar.remsi v13 v15
  let c0_i32_10 : BitVec 32 := 0#32
  let v17 : BitVec 1 := Scalar.cmpi .ne v16 c0_i32_10
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let v21 : BitVec 1 := Scalar.andi v20 v17
  let v22 : BitVec 32 := Scalar.addi v16 v15
  let v23 : BitVec 32 := Scalar.select v21 v22 v16
  let c0_i32_13 : BitVec 32 := 0#32
  let c0_i32_14 : BitVec 32 := 0#32
  let c0_i32_15 : BitVec 32 := 0#32
  ![arg0.toNat, v11.toNat, v23.toNat, c0_i32_13.toNat, c0_i32_14.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x1024x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x1024x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x1024x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x1024x25 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x1024x25 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x1024x25 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x1024x25 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x1024x25 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x1024x25 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x1x25 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x1x25 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x1x25 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x1x1x25 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x1x1x25 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x1x1x25 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x1x1x25 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x1x1x25 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x1x1x25 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 1 → Memref sig .tc .vmem S384x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]

abbrev stage0_19 : Fin 2 → Memref sig .tc .vmem S1x1x1x400x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev grid1 : Pipeline.Grid := ⟨1, ![50], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x128x50x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128x3x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x64x48x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S50x64x48x48 : Shape := ⟨4, ![50, 64, 48, 48]⟩
abbrev S64x384x1x1 : Shape := ⟨4, ![64, 384, 1, 1]⟩
abbrev S64x128x3x3 : Shape := ⟨4, ![64, 128, 3, 3]⟩
abbrev S2x25x64x12x4x12x4 : Shape := ⟨7, ![2, 25, 64, 12, 4, 12, 4]⟩
abbrev S2x12x12x64x4x4x25 : Shape := ⟨7, ![2, 12, 12, 64, 4, 4, 25]⟩
abbrev S288x1024x25 : Shape := ⟨3, ![288, 1024, 25]⟩
abbrev S288x25x1024 : Shape := ⟨3, ![288, 25, 1024]⟩
abbrev S50x64x0x48 : Shape := ⟨4, ![50, 64, 0, 48]⟩
abbrev S50x64x48x0 : Shape := ⟨4, ![50, 64, 48, 0]⟩
abbrev S50x64x48x2 : Shape := ⟨4, ![50, 64, 48, 2]⟩
abbrev S50x64x48x46 : Shape := ⟨4, ![50, 64, 48, 46]⟩
abbrev S50x64x48x4 : Shape := ⟨4, ![50, 64, 48, 4]⟩
abbrev S50x64x48x44 : Shape := ⟨4, ![50, 64, 48, 44]⟩
abbrev S50x64x2x48 : Shape := ⟨4, ![50, 64, 2, 48]⟩
abbrev S50x64x46x48 : Shape := ⟨4, ![50, 64, 46, 48]⟩
abbrev S50x64x4x48 : Shape := ⟨4, ![50, 64, 4, 48]⟩
abbrev S50x64x44x48 : Shape := ⟨4, ![50, 64, 44, 48]⟩
abbrev S288x1024x225 : Shape := ⟨3, ![288, 1024, 225]⟩
abbrev S288x25x225 : Shape := ⟨3, ![288, 25, 225]⟩
abbrev S_ : Shape := ⟨0, ![]⟩
abbrev S288x25 : Shape := ⟨2, ![288, 25]⟩
abbrev S288x25x1 : Shape := ⟨3, ![288, 25, 1]⟩
abbrev S288x225 : Shape := ⟨2, ![288, 225]⟩
abbrev S288x1x225 : Shape := ⟨3, ![288, 1, 225]⟩
abbrev S288x25x6 : Shape := ⟨3, ![288, 25, 6]⟩
abbrev S288x1x25x6 : Shape := ⟨4, ![288, 1, 25, 6]⟩
abbrev S288x1024x25x6 : Shape := ⟨4, ![288, 1024, 25, 6]⟩
abbrev S288x1024x150 : Shape := ⟨3, ![288, 1024, 150]⟩
abbrev S288x1024x150x1 : Shape := ⟨4, ![288, 1024, 150, 1]⟩
abbrev S1 : Shape := ⟨1, ![1]⟩
abbrev S1x1x1x1 : Shape := ⟨4, ![1, 1, 1, 1]⟩
abbrev S2x12x12x64x4x4x25x6 : Shape := ⟨8, ![2, 12, 12, 64, 4, 4, 25, 6]⟩
abbrev S2x25x6x64x12x4x12x4 : Shape := ⟨8, ![2, 25, 6, 64, 12, 4, 12, 4]⟩
abbrev S50x384x48x48 : Shape := ⟨4, ![50, 384, 48, 48]⟩
abbrev S64x384 : Shape := ⟨2, ![64, 384]⟩
abbrev S50x48x48x64 : Shape := ⟨4, ![50, 48, 48, 64]⟩
abbrev S50x128x48x48 : Shape := ⟨4, ![50, 128, 48, 48]⟩
abbrev S50x128x50x50 : Shape := ⟨4, ![50, 128, 50, 50]⟩
abbrev S64x128x1x1 : Shape := ⟨4, ![64, 128, 1, 1]⟩
abbrev S64x128 : Shape := ⟨2, ![64, 128]⟩

abbrev nBuf : Space → Nat
  | .hbm => 213
  | .vmem => 0
  | .smem => 0
  | _ => 0

abbrev hbmTy0_0 (i : Nat) : BufTy := match i % 128 with
  | 0 => ⟨S50x64x48x48, .f32⟩
  | 1 => ⟨S64x384x1x1, .f32⟩
  | 2 => ⟨S64x128x3x3, .f32⟩
  | 3 => ⟨S2x25x64x12x4x12x4, .f32⟩
  | 4 => ⟨S2x12x12x64x4x4x25, .f32⟩
  | 5 => ⟨S288x1024x25, .f32⟩
  | 6 => ⟨S288x25x1024, .f32⟩
  | 7 => ⟨S50x64x48x48, .f32⟩
  | 8 => ⟨S50x64x0x48, .f32⟩
  | 9 => ⟨S50x64x48x48, .f32⟩
  | 10 => ⟨S50x64x48x48, .f32⟩
  | 11 => ⟨S50x64x48x0, .f32⟩
  | 12 => ⟨S50x64x48x48, .f32⟩
  | 13 => ⟨S2x25x64x12x4x12x4, .f32⟩
  | 14 => ⟨S2x12x12x64x4x4x25, .f32⟩
  | 15 => ⟨S288x1024x25, .f32⟩
  | 16 => ⟨S50x64x48x48, .f32⟩
  | 17 => ⟨S50x64x0x48, .f32⟩
  | 18 => ⟨S50x64x48x48, .f32⟩
  | 19 => ⟨S50x64x48x2, .f32⟩
  | 20 => ⟨S50x64x48x46, .f32⟩
  | 21 => ⟨S50x64x48x48, .f32⟩
  | 22 => ⟨S2x25x64x12x4x12x4, .f32⟩
  | 23 => ⟨S2x12x12x64x4x4x25, .f32⟩
  | 24 => ⟨S288x1024x25, .f32⟩
  | 25 => ⟨S50x64x48x48, .f32⟩
  | 26 => ⟨S50x64x0x48, .f32⟩
  | 27 => ⟨S50x64x48x48, .f32⟩
  | 28 => ⟨S50x64x48x4, .f32⟩
  | 29 => ⟨S50x64x48x44, .f32⟩
  | 30 => ⟨S50x64x48x48, .f32⟩
  | 31 => ⟨S2x25x64x12x4x12x4, .f32⟩
  | 32 => ⟨S2x12x12x64x4x4x25, .f32⟩
  | 33 => ⟨S288x1024x25, .f32⟩
  | 34 => ⟨S50x64x2x48, .f32⟩
  | 35 => ⟨S50x64x46x48, .f32⟩
  | 36 => ⟨S50x64x48x48, .f32⟩
  | 37 => ⟨S50x64x48x48, .f32⟩
  | 38 => ⟨S50x64x48x0, .f32⟩
  | 39 => ⟨S50x64x48x48, .f32⟩
  | 40 => ⟨S2x25x64x12x4x12x4, .f32⟩
  | 41 => ⟨S2x12x12x64x4x4x25, .f32⟩
  | 42 => ⟨S288x1024x25, .f32⟩
  | 43 => ⟨S50x64x2x48, .f32⟩
  | 44 => ⟨S50x64x46x48, .f32⟩
  | 45 => ⟨S50x64x48x48, .f32⟩
  | 46 => ⟨S50x64x48x2, .f32⟩
  | 47 => ⟨S50x64x48x46, .f32⟩
  | 48 => ⟨S50x64x48x48, .f32⟩
  | 49 => ⟨S2x25x64x12x4x12x4, .f32⟩
  | 50 => ⟨S2x12x12x64x4x4x25, .f32⟩
  | 51 => ⟨S288x1024x25, .f32⟩
  | 52 => ⟨S50x64x2x48, .f32⟩
  | 53 => ⟨S50x64x46x48, .f32⟩
  | 54 => ⟨S50x64x48x48, .f32⟩
  | 55 => ⟨S50x64x48x4, .f32⟩
  | 56 => ⟨S50x64x48x44, .f32⟩
  | 57 => ⟨S50x64x48x48, .f32⟩
  | 58 => ⟨S2x25x64x12x4x12x4, .f32⟩
  | 59 => ⟨S2x12x12x64x4x4x25, .f32⟩
  | 60 => ⟨S288x1024x25, .f32⟩
  | 61 => ⟨S50x64x4x48, .f32⟩
  | 62 => ⟨S50x64x44x48, .f32⟩
  | 63 => ⟨S50x64x48x48, .f32⟩
  | 64 => ⟨S50x64x48x48, .f32⟩
  | 65 => ⟨S50x64x48x0, .f32⟩
  | 66 => ⟨S50x64x48x48, .f32⟩
  | 67 => ⟨S2x25x64x12x4x12x4, .f32⟩
  | 68 => ⟨S2x12x12x64x4x4x25, .f32⟩
  | 69 => ⟨S288x1024x25, .f32⟩
  | 70 => ⟨S50x64x4x48, .f32⟩
  | 71 => ⟨S50x64x44x48, .f32⟩
  | 72 => ⟨S50x64x48x48, .f32⟩
  | 73 => ⟨S50x64x48x2, .f32⟩
  | 74 => ⟨S50x64x48x46, .f32⟩
  | 75 => ⟨S50x64x48x48, .f32⟩
  | 76 => ⟨S2x25x64x12x4x12x4, .f32⟩
  | 77 => ⟨S2x12x12x64x4x4x25, .f32⟩
  | 78 => ⟨S288x1024x25, .f32⟩
  | 79 => ⟨S50x64x4x48, .f32⟩
  | 80 => ⟨S50x64x44x48, .f32⟩
  | 81 => ⟨S50x64x48x48, .f32⟩
  | 82 => ⟨S50x64x48x4, .f32⟩
  | 83 => ⟨S50x64x48x44, .f32⟩
  | 84 => ⟨S50x64x48x48, .f32⟩
  | 85 => ⟨S2x25x64x12x4x12x4, .f32⟩
  | 86 => ⟨S2x12x12x64x4x4x25, .f32⟩
  | 87 => ⟨S288x1024x25, .f32⟩
  | 88 => ⟨S288x1024x225, .f32⟩
  | 89 => ⟨S288x25x225, .f32⟩
  | 90 => ⟨S_, .f32⟩
  | 91 => ⟨S288x25x225, .f32⟩
  | 92 => ⟨S288x25x225, .f32⟩
  | 93 => ⟨S288x25x1024, .f32⟩
  | 94 => ⟨S_, .f32⟩
  | 95 => ⟨S288x25, .f32⟩
  | 96 => ⟨S288x25x1, .f32⟩
  | 97 => ⟨S288x25x225, .f32⟩
  | 98 => ⟨S288x25x225, .f32⟩
  | 99 => ⟨S288x1024x225, .f32⟩
  | 100 => ⟨S_, .f32⟩
  | 101 => ⟨S288x225, .f32⟩
  | 102 => ⟨S288x1x225, .f32⟩
  | 103 => ⟨S288x25x225, .f32⟩
  | 104 => ⟨S288x25x225, .f32⟩
  | 105 => ⟨S288x25x225, .f32⟩
  | 106 => ⟨S288x25x6, .f32⟩
  | 107 => ⟨S288x25x6, .i32⟩
  | 108 => ⟨S288x1x25x6, .i32⟩
  | 109 => ⟨S288x1024x25x6, .i32⟩
  | 110 => ⟨S288x1024x150, .i32⟩
  | 111 => ⟨S_, .i32⟩
  | 112 => ⟨S288x1024x150, .i32⟩
  | 113 => ⟨S288x1024x150, .i1⟩
  | 114 => ⟨S_, .i32⟩
  | 115 => ⟨S288x1024x150, .i32⟩
  | 116 => ⟨S288x1024x150, .i32⟩
  | 117 => ⟨S288x1024x150, .i32⟩
  | 118 => ⟨S288x1024x150x1, .i32⟩
  | 119 => ⟨S1, .i32⟩
  | 120 => ⟨S_, .i32⟩
  | 121 => ⟨S288x1024x150x1, .i32⟩
  | 122 => ⟨S288x1024x150x1, .i1⟩
  | 123 => ⟨S1x1x1x1, .i32⟩
  | 124 => ⟨S288x1024x150x1, .i32⟩
  | 125 => ⟨S288x1024x150x1, .i1⟩
  | 126 => ⟨S288x1024x150x1, .i1⟩
  | 127 => ⟨S_, .i1⟩
  | _ => ⟨S50x64x48x48, .f32⟩

abbrev hbmTy0_1 (i : Nat) : BufTy := match i % 128 with
  | 0 => ⟨S288x1024x150, .i1⟩
  | 1 => ⟨S288x1024x150, .f32⟩
  | 2 => ⟨S_, .f32⟩
  | 3 => ⟨S288x1024x150, .f32⟩
  | 4 => ⟨S288x1024x150, .f32⟩
  | 5 => ⟨S2x12x12x64x4x4x25x6, .f32⟩
  | 6 => ⟨S2x25x6x64x12x4x12x4, .f32⟩
  | 7 => ⟨S50x384x48x48, .f32⟩
  | 8 => ⟨S64x384, .f32⟩
  | 9 => ⟨S50x48x48x64, .f32⟩
  | 10 => ⟨S50x64x48x48, .f32⟩
  | 11 => ⟨S_, .f32⟩
  | 12 => ⟨S50x64x48x48, .f32⟩
  | 13 => ⟨S50x64x48x48, .i1⟩
  | 14 => ⟨S_, .f32⟩
  | 15 => ⟨S50x64x48x48, .f32⟩
  | 16 => ⟨S50x64x48x48, .f32⟩
  | 17 => ⟨S50x64x48x48, .f32⟩
  | 18 => ⟨S50x128x48x48, .f32⟩
  | 19 => ⟨S_, .i32⟩
  | 20 => ⟨S_, .f32⟩
  | 21 => ⟨S50x128x50x50, .f32⟩
  | 22 => ⟨S_, .f32⟩
  | 23 => ⟨S50x64x48x48, .f32⟩
  | 24 => ⟨S64x128x1x1, .f32⟩
  | 25 => ⟨S64x128, .f32⟩
  | 26 => ⟨S50x128x48x48, .f32⟩
  | 27 => ⟨S50x48x48x64, .f32⟩
  | 28 => ⟨S50x64x48x48, .f32⟩
  | 29 => ⟨S50x64x48x48, .f32⟩
  | 30 => ⟨S64x128x1x1, .f32⟩
  | 31 => ⟨S64x128, .f32⟩
  | 32 => ⟨S50x128x48x48, .f32⟩
  | 33 => ⟨S50x48x48x64, .f32⟩
  | 34 => ⟨S50x64x48x48, .f32⟩
  | 35 => ⟨S50x64x48x48, .f32⟩
  | 36 => ⟨S64x128x1x1, .f32⟩
  | 37 => ⟨S64x128, .f32⟩
  | 38 => ⟨S50x128x48x48, .f32⟩
  | 39 => ⟨S50x48x48x64, .f32⟩
  | 40 => ⟨S50x64x48x48, .f32⟩
  | 41 => ⟨S50x64x48x48, .f32⟩
  | 42 => ⟨S64x128x1x1, .f32⟩
  | 43 => ⟨S64x128, .f32⟩
  | 44 => ⟨S50x128x48x48, .f32⟩
  | 45 => ⟨S50x48x48x64, .f32⟩
  | 46 => ⟨S50x64x48x48, .f32⟩
  | 47 => ⟨S50x64x48x48, .f32⟩
  | 48 => ⟨S64x128x1x1, .f32⟩
  | 49 => ⟨S64x128, .f32⟩
  | 50 => ⟨S50x128x48x48, .f32⟩
  | 51 => ⟨S50x48x48x64, .f32⟩
  | 52 => ⟨S50x64x48x48, .f32⟩
  | 53 => ⟨S50x64x48x48, .f32⟩
  | 54 => ⟨S64x128x1x1, .f32⟩
  | 55 => ⟨S64x128, .f32⟩
  | 56 => ⟨S50x128x48x48, .f32⟩
  | 57 => ⟨S50x48x48x64, .f32⟩
  | 58 => ⟨S50x64x48x48, .f32⟩
  | 59 => ⟨S50x64x48x48, .f32⟩
  | 60 => ⟨S64x128x1x1, .f32⟩
  | 61 => ⟨S64x128, .f32⟩
  | 62 => ⟨S50x128x48x48, .f32⟩
  | 63 => ⟨S50x48x48x64, .f32⟩
  | 64 => ⟨S50x64x48x48, .f32⟩
  | 65 => ⟨S50x64x48x48, .f32⟩
  | 66 => ⟨S64x128x1x1, .f32⟩
  | 67 => ⟨S64x128, .f32⟩
  | 68 => ⟨S50x128x48x48, .f32⟩
  | 69 => ⟨S50x48x48x64, .f32⟩
  | 70 => ⟨S50x64x48x48, .f32⟩
  | 71 => ⟨S50x64x48x48, .f32⟩
  | 72 => ⟨S64x128x1x1, .f32⟩
  | 73 => ⟨S64x128, .f32⟩
  | 74 => ⟨S50x128x48x48, .f32⟩
  | 75 => ⟨S50x48x48x64, .f32⟩
  | 76 => ⟨S50x64x48x48, .f32⟩
  | 77 => ⟨S50x64x48x48, .f32⟩
  | 78 => ⟨S_, .f32⟩
  | 79 => ⟨S50x64x48x48, .f32⟩
  | 80 => ⟨S50x64x48x48, .i1⟩
  | 81 => ⟨S_, .f32⟩
  | 82 => ⟨S50x64x48x48, .f32⟩
  | 83 => ⟨S50x64x48x48, .f32⟩
  | 84 => ⟨S50x64x48x48, .f32⟩
  | _ => ⟨S50x64x48x48, .f32⟩

abbrev hbmTy (i : Nat) : BufTy := match i / 128 with
  | 0 => hbmTy0_0 i
  | 1 => hbmTy0_1 i
  | _ => ⟨S50x64x48x48, .f32⟩

abbrev bufTy : (tb : Table) → Fin (tcTables nBuf tb) → BufTy
  | .hbm, ⟨i, _⟩ => hbmTy i
  | _, _ => ⟨S50x64x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call5_v0 : Ref sig .tc := ⟨.hbm, 52, rfl⟩
abbrev main_call5_v1 : Ref sig .tc := ⟨.hbm, 53, rfl⟩
abbrev main_call5_v2 : Ref sig .tc := ⟨.hbm, 54, rfl⟩
abbrev main_call5_v3 : Ref sig .tc := ⟨.hbm, 55, rfl⟩
abbrev main_call5_v4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call6_v0 : Ref sig .tc := ⟨.hbm, 61, rfl⟩
abbrev main_call6_v1 : Ref sig .tc := ⟨.hbm, 62, rfl⟩
abbrev main_call6_v2 : Ref sig .tc := ⟨.hbm, 63, rfl⟩
abbrev main_call6_v3 : Ref sig .tc := ⟨.hbm, 64, rfl⟩
abbrev main_call6_v4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_call7_v3 : Ref sig .tc := ⟨.hbm, 73, rfl⟩
abbrev main_call7_v4 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_call8_v0 : Ref sig .tc := ⟨.hbm, 79, rfl⟩
abbrev main_call8_v1 : Ref sig .tc := ⟨.hbm, 80, rfl⟩
abbrev main_call8_v2 : Ref sig .tc := ⟨.hbm, 81, rfl⟩
abbrev main_call8_v3 : Ref sig .tc := ⟨.hbm, 82, rfl⟩
abbrev main_call8_v4 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_0 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_1 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_values : Ref sig .tc := ⟨.hbm, 106, rfl⟩
abbrev main_indices : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_call9_c : Ref sig .tc := ⟨.hbm, 111, rfl⟩
abbrev main_call9_v0 : Ref sig .tc := ⟨.hbm, 112, rfl⟩
abbrev main_call9_v1 : Ref sig .tc := ⟨.hbm, 113, rfl⟩
abbrev main_call9_c_0 : Ref sig .tc := ⟨.hbm, 114, rfl⟩
abbrev main_call9_v2 : Ref sig .tc := ⟨.hbm, 115, rfl⟩
abbrev main_call9_v3 : Ref sig .tc := ⟨.hbm, 116, rfl⟩
abbrev main_call9_v4 : Ref sig .tc := ⟨.hbm, 117, rfl⟩
abbrev main_call9_v5 : Ref sig .tc := ⟨.hbm, 118, rfl⟩
abbrev main_call9_c_1 : Ref sig .tc := ⟨.hbm, 119, rfl⟩
abbrev main_call9_c_2 : Ref sig .tc := ⟨.hbm, 120, rfl⟩
abbrev main_call9_v6 : Ref sig .tc := ⟨.hbm, 121, rfl⟩
abbrev main_call9_v7 : Ref sig .tc := ⟨.hbm, 122, rfl⟩
abbrev main_call9_v8 : Ref sig .tc := ⟨.hbm, 123, rfl⟩
abbrev main_call9_v9 : Ref sig .tc := ⟨.hbm, 124, rfl⟩
abbrev main_call9_v10 : Ref sig .tc := ⟨.hbm, 125, rfl⟩
abbrev main_call9_v11 : Ref sig .tc := ⟨.hbm, 126, rfl⟩
abbrev main_call9_c_3 : Ref sig .tc := ⟨.hbm, 127, rfl⟩
abbrev main_call9_v12 : Ref sig .tc := ⟨.hbm, 128, rfl⟩
abbrev main_call9_v13 : Ref sig .tc := ⟨.hbm, 129, rfl⟩
abbrev main_call9_cst : Ref sig .tc := ⟨.hbm, 130, rfl⟩
abbrev main_call9_v14 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_2 : Ref sig .tc := ⟨.hbm, 139, rfl⟩
abbrev main_v65 : Ref sig .tc := ⟨.hbm, 140, rfl⟩
abbrev main_v66 : Ref sig .tc := ⟨.hbm, 141, rfl⟩
abbrev main_cst_3 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_c : Ref sig .tc := ⟨.hbm, 147, rfl⟩
abbrev main_call11_v0 : Ref sig .tc := ⟨.hbm, 148, rfl⟩
abbrev main_v71 : Ref sig .tc := ⟨.hbm, 149, rfl⟩
abbrev main_cst_4 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_cst_5 : Ref sig .tc := ⟨.hbm, 206, rfl⟩
abbrev main_v127 : Ref sig .tc := ⟨.hbm, 207, rfl⟩
abbrev main_v128 : Ref sig .tc := ⟨.hbm, 208, rfl⟩
abbrev main_cst_6 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩

abbrev nD : Nat := 1
abbrev τ : Topo := Topo.v7x

variable {F : FTy → Type} [FloatOps F]
-- ==== Proof.Spec.lean ====
/-
  What the kernel and the reference both compute, as plain formulas over the extended reals.

  `feat X n ph pw i k a` is one entry of a shifted patch: frame `a` of video `n`, shift number `i` (the feature map
  rolled down by `2 * (i / 3)` rows and right by `2 * (i % 3)` columns), patch `(ph, pw)` of size 4 × 4, and `k` the
  channel and the place inside the patch (`k = channel * 16 + row * 4 + column`).
-/
module

public import Idealize.ShloMosaic.Lib.Pointwise

@[expose] public section

noncomputable section

namespace Cert.Math

open Idealize.ShloMosaic Idealize.ShloMosaic.Pointwise

/-- The leaky rectifier with slope 0.1 (the binary32 number nearest to it). -/
def leaky (x : EReal) : EReal :=
  if 0 ≤ x then x else Ideal.ofBits .f32 0x3DCCCCCD#32 * x

/-- One of the nine products of the 3 × 3 convolution: the weights at tap `(dy, dx)` against the padded input shifted by
    it. -/
def tap (W : (⟨4, ![64, 128, 3, 3]⟩ : Shape).Idx → EReal) (Z : Fin 128 → Fin 50 → Fin 50 → EReal) (dy dx : Fin 3)
    (o : Fin 64) (h w : Fin 48) : EReal :=
  ∑ ci : Fin 128, W (ix4 o ci dy dx) * Z ci ⟨dy.val + h.val, by omega⟩ ⟨dx.val + w.val, by omega⟩

/-- The 3 × 3 convolution of a padded input, tap by tap from the upper left, then the leaky rectifier. -/
def conv (W : (⟨4, ![64, 128, 3, 3]⟩ : Shape).Idx → EReal) (Z : Fin 128 → Fin 50 → Fin 50 → EReal)
    (o : Fin 64) (h w : Fin 48) : EReal :=
  leaky (tap W Z 0 0 o h w + tap W Z 0 1 o h w + tap W Z 0 2 o h w + tap W Z 1 0 o h w + tap W Z 1 1 o h w
    + tap W Z 1 2 o h w + tap W Z 2 0 o h w + tap W Z 2 1 o h w + tap W Z 2 2 o h w)

/-- One entry of a shifted patch. -/
def feat (X : (⟨4, ![50, 64, 48, 48]⟩ : Shape).Idx → EReal) (n : Fin 2) (ph pw : Fin 12) (i : Fin 9) (k : Fin 1024)
    (a : Fin 25) : EReal :=
  X (ix4 ⟨n.val * 25 + a.val, by omega⟩ ⟨k.val / 16, by omega⟩
    ⟨(ph.val * 4 + k.val / 4 % 4 + 48 - 2 * (i.val / 3)) % 48, by omega⟩
    ⟨(pw.val * 4 + k.val % 4 + 48 - 2 * (i.val % 3)) % 48, by omega⟩)

/-- Candidate `j` of a patch: shift `j / 25`, frame `j % 25`. -/
def cand (X : (⟨4, ![50, 64, 48, 48]⟩ : Shape).Idx → EReal) (n : Fin 2) (ph pw : Fin 12) (k : Fin 1024) (j : Fin 225) :
    EReal :=
  feat X n ph pw ⟨j.val / 25, by omega⟩ k ⟨j.val % 25, by omega⟩

/-- The matching score of query frame `a` against candidate `j`, smaller being nearer: minus twice the inner product plus
    the candidate's squared norm. -/
def score (X : (⟨4, ![50, 64, 48, 48]⟩ : Shape).Idx → EReal) (n : Fin 2) (ph pw : Fin 12) (a : Fin 25) (j : Fin 225) :
    EReal :=
  Ideal.ofBits .f32 0xC0000000#32 * (∑ k : Fin 1024, cand X n ph pw k ⟨a.val, by omega⟩ * cand X n ph pw k j)
    + ∑ k : Fin 1024, cand X n ph pw k j * cand X n ph pw k j

/-- The first place at which a row of scores has its least value. -/
def amin (v : Fin 225 → EReal) : Fin 225 :=
  (Finset.univ.filter fun j => v j = Finset.univ.inf v).min' (by
    obtain ⟨j, _, hj⟩ := Finset.exists_mem_eq_inf (Finset.univ : Finset (Fin 225)) ⟨0, Finset.mem_univ _⟩ v
    exact ⟨j, by simp [hj]⟩)

/-- The row of scores after `r` rounds: each round replaces the chosen entry by a number larger than every score. -/
def rest (v : Fin 225 → EReal) : ℕ → Fin 225 → EReal
  | 0 => v
  | r + 1 => fun j => if j = amin (rest v r) then Ideal.ofBits .f32 0x7F7FC99E#32 else rest v r j

/-- The candidate chosen in round `r`. -/
def pick (v : Fin 225 → EReal) (r : ℕ) : Fin 225 := amin (rest v r)

/-- The 1 × 1 convolution of the chosen candidates and the leaky rectifier, at output channel `o`, frame `b` and position
    `(y, x)`. -/
def spAt (X : (⟨4, ![50, 64, 48, 48]⟩ : Shape).Idx → EReal) (W : (⟨4, ![64, 384, 1, 1]⟩ : Shape).Idx → EReal) (n : Fin 2)
    (ph pw : Fin 12) (a : Fin 25) (o : Fin 64) (yx : Fin 16) : EReal :=
  leaky (∑ q : Fin 384, cand X n ph pw ⟨q.val % 64 * 16 + yx.val, by omega⟩ (pick (score X n ph pw a) (q.val / 64))
    * W (ix4 o q (0 : Fin 1) (0 : Fin 1)))

end Cert.Math

end
-- ==== Proof.HostPre.lean ====
/-
  What the program computes before the first kernel: the feature map and three rolled copies of it, each cut into
  patches, with the squared norm of every candidate, and the transposed weights of the 1 × 1 convolution.
-/
module

public import proofs.«01_k».proof.Proof.Spec
public import proofs.«01_k».proof.Proof.Gen.KernelIdeal.Frame

@[expose] public section

set_option maxRecDepth 16384

noncomputable section

namespace Cert.KernelIdeal.Hand

open Idealize.ShloMosaic Idealize.ShloMosaic.Pointwise Cert.KernelIdeal Cert.KernelIdeal.Gen Cert.Math
open Cert.KernelIdeal.Facts

/-! ## The arrays as functions of the arguments -/

/-- The feature map cut into patches. -/
def patches (x : Vec Ideal S50x64x48x48 .f32) : Vec Ideal S2x12x12x1024x25 .f32 :=
  shapeCast S2x12x12x1024x25 (transpose S2x12x12x64x4x4x25 [0, 3, 5, 2, 4, 6, 1]
    (shapeCast S2x25x64x12x4x12x4 x shapeCasts_S50x64x48x48_S2x25x64x12x4x12x4)
    transposes_S2x25x64x12x4x12x4_S2x12x12x64x4x4x25_0_3_5_2_4_6_1) shapeCasts_S2x12x12x64x4x4x25_S2x12x12x1024x25

/-- The squared norms of the columns of the patches. -/
def norms (x : Vec Ideal S2x12x12x1024x25 .f32) : Vec Ideal S2x12x12x1x25 .f32 :=
  shapeCast S2x12x12x1x25 (broadcastInDim S288x1x25 ![0, 2] bcast_S288x25_S288x1x25_0_2
    (Host.reduceAdd (F := Ideal) (φ := .f32) (mulf (shapeCast S288x1024x25 x shapeCasts_S2x12x12x1024x25_S288x1024x25)
      (shapeCast S288x1024x25 x shapeCasts_S2x12x12x1024x25_S288x1024x25)) (constant S_ .f32 0x00000000#32)
      reducesTo_S288x1024x25_S288x25_d1 h_S_)) shapeCasts_S288x1x25_S2x12x12x1x25

/-- The feature map rolled right by two. -/
def right2 (x : Vec Ideal S50x64x48x48 .f32) : Vec Ideal S50x64x48x48 .f32 :=
  concatenate S50x64x48x48 3 [⟨S50x64x48x2, extractStridedSlice S50x64x48x2 ![0, 0, 0, 46] x slices_S50x64x48x48_S50x64x48x2_0_0_0_46⟩,
    ⟨S50x64x48x46, extractStridedSlice S50x64x48x46 ![0, 0, 0, 0] x slices_S50x64x48x48_S50x64x48x46_0_0_0_0⟩]
    concatenates_S50x64x48x2_S50x64x48x46_S50x64x48x48_d3

/-- The feature map rolled down by two. -/
def down2 (x : Vec Ideal S50x64x48x48 .f32) : Vec Ideal S50x64x48x48 .f32 :=
  concatenate S50x64x48x48 2 [⟨S50x64x2x48, extractStridedSlice S50x64x2x48 ![0, 0, 46, 0] x slices_S50x64x48x48_S50x64x2x48_0_0_46_0⟩,
    ⟨S50x64x46x48, extractStridedSlice S50x64x46x48 ![0, 0, 0, 0] x slices_S50x64x48x48_S50x64x46x48_0_0_0_0⟩]
    concatenates_S50x64x2x48_S50x64x46x48_S50x64x48x48_d2

/-- The feature map rolled down by nothing, as the program spells it. -/
def down0 (x : Vec Ideal S50x64x48x48 .f32) : Vec Ideal S50x64x48x48 .f32 :=
  concatenate S50x64x48x48 2 [⟨S50x64x48x48, extractStridedSlice S50x64x48x48 ![0, 0, 0, 0] x slices_S50x64x48x48_S50x64x48x48_0_0_0_0⟩,
    ⟨S50x64x0x48, extractStridedSlice S50x64x0x48 ![0, 0, 0, 0] x slices_S50x64x48x48_S50x64x0x48_0_0_0_0⟩]
    concatenates_S50x64x48x48_S50x64x0x48_S50x64x48x48_d2

/-- The feature map rolled right by nothing, as the program spells it. -/
def right0 (x : Vec Ideal S50x64x48x48 .f32) : Vec Ideal S50x64x48x48 .f32 :=
  concatenate S50x64x48x48 3 [⟨S50x64x48x48, extractStridedSlice S50x64x48x48 ![0, 0, 0, 0] x slices_S50x64x48x48_S50x64x48x48_0_0_0_0⟩,
    ⟨S50x64x48x0, extractStridedSlice S50x64x48x0 ![0, 0, 0, 0] x slices_S50x64x48x48_S50x64x48x0_0_0_0_0⟩]
    concatenates_S50x64x48x48_S50x64x48x0_S50x64x48x48_d3

/-- The weights of the 1 × 1 convolution, input channel first. -/
def weights (w : Vec Ideal S64x384x1x1 .f32) : Vec Ideal S384x64 .f32 :=
  transpose S384x64 [1, 0] (shapeCast S64x384 w shapeCasts_S64x384x1x1_S64x384) transposes_S64x384_S384x64_1_0

/-! ## The buffers -/

section Segments

variable (V : Valuation τ sig (Elt Ideal))

theorem seg0_v2 : StableHlo.after hostOps0 V (Proc.devRef .tc main_v2) = patches (V (Proc.devRef .tc main_arg0)) := by
  simp only [hostOps0]; after_results_simp; rfl

theorem seg0_v7 : StableHlo.after hostOps0 V (Proc.devRef .tc main_v7) = norms (patches (V (Proc.devRef .tc main_arg0))) := by
  simp only [hostOps0]; after_results_simp; rfl

theorem seg1_v8 : StableHlo.after hostOps0_1 V (Proc.devRef .tc main_v8) = right2 (down0 (V (Proc.devRef .tc main_arg0))) := by
  simp only [hostOps0_1, StableHlo.TRef.binary, StableHlo.TRef.unary, StableHlo.TRef.toBuf, StableHlo.TRef.ofBuf, cast_eq]
  after_results_simp; rfl

theorem seg2_v11 : StableHlo.after hostOps0_2 V (Proc.devRef .tc main_v11) = patches (V (Proc.devRef .tc main_v8)) := by
  simp only [hostOps0_2]; after_results_simp; rfl

theorem seg2_v16 : StableHlo.after hostOps0_2 V (Proc.devRef .tc main_v16) = norms (patches (V (Proc.devRef .tc main_v8))) := by
  simp only [hostOps0_2]; after_results_simp; rfl

theorem seg3_v17 : StableHlo.after hostOps0_3 V (Proc.devRef .tc main_v17) = right0 (down2 (V (Proc.devRef .tc main_arg0))) := by
  simp only [hostOps0_3, StableHlo.TRef.binary, StableHlo.TRef.unary, StableHlo.TRef.toBuf, StableHlo.TRef.ofBuf, cast_eq]
  after_results_simp; rfl

theorem seg4_v20 : StableHlo.after hostOps0_4 V (Proc.devRef .tc main_v20) = patches (V (Proc.devRef .tc main_v17)) := by
  simp only [hostOps0_4]; after_results_simp; rfl

theorem seg4_v25 : StableHlo.after hostOps0_4 V (Proc.devRef .tc main_v25) = norms (patches (V (Proc.devRef .tc main_v17))) := by
  simp only [hostOps0_4]; after_results_simp; rfl

theorem seg5_v26 : StableHlo.after hostOps0_5 V (Proc.devRef .tc main_v26) = right2 (down2 (V (Proc.devRef .tc main_arg0))) := by
  simp only [hostOps0_5, StableHlo.TRef.binary, StableHlo.TRef.unary, StableHlo.TRef.toBuf, StableHlo.TRef.ofBuf, cast_eq]
  after_results_simp; rfl

theorem seg6_v29 : StableHlo.after hostOps0_6 V (Proc.devRef .tc main_v29) = patches (V (Proc.devRef .tc main_v26)) := by
  simp only [hostOps0_6]; after_results_simp; rfl

theorem seg6_v34 : StableHlo.after hostOps0_6 V (Proc.devRef .tc main_v34) = norms (patches (V (Proc.devRef .tc main_v26))) := by
  simp only [hostOps0_6]; after_results_simp; rfl

theorem seg6_v36 : StableHlo.after hostOps0_6 V (Proc.devRef .tc main_v36) = weights (V (Proc.devRef .tc main_arg1)) := by
  simp only [hostOps0_6]; after_results_simp; rfl

end Segments

/-! ## The arrays at an index -/

theorem patches_apply (x : Vec Ideal S50x64x48x48 .f32) (n : Fin 2) (ph pw : Fin 12) (k : Fin 1024) (a : Fin 25) :
    patches x (ix5 n ph pw k a) = x (ix4 ⟨n.val * 25 + a.val, by omega⟩ ⟨k.val / 16, by omega⟩
      ⟨ph.val * 4 + k.val / 4 % 4, by omega⟩ ⟨pw.val * 4 + k.val % 4, by omega⟩) := by
  pointwise [patches]

theorem norms_apply (x : Vec Ideal S2x12x12x1024x25 .f32) (n : Fin 2) (ph pw : Fin 12) (a : Fin 25) :
    norms x (ix5 n ph pw (0 : Fin 1) a) = ∑ k : Fin 1024, x (ix5 n ph pw k a) * x (ix5 n ph pw k a) := by
  pointwise [norms]

theorem right2_apply (x : Vec Ideal S50x64x48x48 .f32) (b : Fin 50) (c : Fin 64) (y z : Fin 48) :
    right2 x (ix4 b c y z) = x (ix4 b c y ⟨(z.val + 46) % 48, by omega⟩) := by
  pointwise [right2]
  split
  · exact congrArg (fun u => x (ix4 b c y u)) (Fin.ext (by show 46 + z.val = (z.val + 46) % 48; omega))
  · exact congrArg (fun u => x (ix4 b c y u)) (Fin.ext (by show z.val - 2 = (z.val + 46) % 48; omega))

theorem down2_apply (x : Vec Ideal S50x64x48x48 .f32) (b : Fin 50) (c : Fin 64) (y z : Fin 48) :
    down2 x (ix4 b c y z) = x (ix4 b c ⟨(y.val + 46) % 48, by omega⟩ z) := by
  pointwise [down2]
  split
  · exact congrArg (fun u => x (ix4 b c u z)) (Fin.ext (by show 46 + y.val = (y.val + 46) % 48; omega))
  · exact congrArg (fun u => x (ix4 b c u z)) (Fin.ext (by show y.val - 2 = (y.val + 46) % 48; omega))

theorem right0_apply (x : Vec Ideal S50x64x48x48 .f32) (b : Fin 50) (c : Fin 64) (y z : Fin 48) :
    right0 x (ix4 b c y z) = x (ix4 b c y z) := by
  pointwise [right0]

theorem down0_apply (x : Vec Ideal S50x64x48x48 .f32) (b : Fin 50) (c : Fin 64) (y z : Fin 48) :
    down0 x (ix4 b c y z) = x (ix4 b c y z) := by
  pointwise [down0]

theorem weights_apply (w : Vec Ideal S64x384x1x1 .f32) (q : Fin 384) (o : Fin 64) :
    weights w (ix2 q o) = w (ix4 o q (0 : Fin 1) (0 : Fin 1)) := by
  pointwise [weights]

end Cert.KernelIdeal.Hand

end
-- ==== Proof.MatchIndex.lean ====
/-
  Which block of its array each window of the first kernel reads, at every grid point.
-/
module

public import proofs.«01_k».proof.Proof.Gen.KernelIdeal.Points

@[expose] public section

set_option maxRecDepth 16384

namespace Cert.KernelIdeal.Hand

open Idealize.ShloMosaic Cert.KernelIdeal Cert.KernelIdeal.Gen

/-- There are 288 grid points. -/
theorem points (t : Fin cfg0.N) : t.val < 288 := lt_of_lt_of_eq t.isLt (by decide +kernel)

/-- The coordinates of a grid point: the video, the patch row and the patch column. -/
theorem coords_val : ∀ t : Fin cfg0.N, (grid0.coords t 0).val = t.val / 144 ∧ (grid0.coords t 1).val = t.val / 12 % 12
    ∧ (grid0.coords t 2).val = t.val % 12 := by decide +kernel

/-- A patch coordinate moved back by `d`, cyclically over twelve, as the program spells it. -/
def back (x d : BitVec 32) : BitVec 32 :=
  let v1 := Scalar.subi (Scalar.addi x 12#32) d
  let v3 := Scalar.select (Scalar.cmpi .eq 12#32 0#32) 1#32 12#32
  let v4 := Scalar.remsi v1 v3
  Scalar.select (Scalar.andi (Scalar.xori (Scalar.cmpi .slt v4 0#32) (Scalar.cmpi .slt v3 0#32)) (Scalar.cmpi .ne v4 0#32))
    (Scalar.addi v4 v3) v4

theorem back_toNat : ∀ (p : Fin 12) (d : Fin 2), (back (BitVec.ofNat 32 p.val) (BitVec.ofNat 32 d.val)).toNat = (p.val + 12 - d.val) % 12 := by
  decide +kernel

/-- The block a window reads, its patch moved back by `dh` rows and `dw` columns. -/
def moved (dh dw : Fin 2) (x : grid0.Coords) : Fin 5 → ℕ :=
  ![(BitVec.ofNat 32 (x 0).val).toNat, (back (BitVec.ofNat 32 (x 1).val) (BitVec.ofNat 32 dh.val)).toNat,
    (back (BitVec.ofNat 32 (x 2).val) (BitVec.ofNat 32 dw.val)).toNat, (0#32 : BitVec 32).toNat, (0#32 : BitVec 32).toNat]

theorem moved_eq (dh dw : Fin 2) (t : Fin cfg0.N) : moved dh dw (grid0.coords t)
    = ![t.val / 144, (t.val / 12 % 12 + 12 - dh.val) % 12, (t.val % 12 + 12 - dw.val) % 12, 0, 0] := by
  obtain ⟨h0, h1, h2⟩ := coords_val t
  have ht := points t
  unfold moved
  rw [h0, h1, h2, back_toNat ⟨t.val / 12 % 12, Nat.mod_lt _ (by decide)⟩ dh, back_toNat ⟨t.val % 12, Nat.mod_lt _ (by decide)⟩ dw,
    BitVec.toNat_ofNat, Nat.mod_eq_of_lt (by omega)]
  rfl

/-- Which block of its array each window of candidates reads, the patches counted cyclically. -/
theorem index_patch (i : Fin 9) (t : Fin cfg0.N) :
    (![cc0_transform_0, cc0_transform_1, cc0_transform_2, cc0_transform_3, cc0_transform_4, cc0_transform_5, cc0_transform_6,
      cc0_transform_7, cc0_transform_8] : Fin 9 → grid0.Coords → Fin 5 → ℕ) i (grid0.coords t)
      = ![t.val / 144, (t.val / 12 % 12 + 12 - i.val / 6) % 12, (t.val % 12 + 12 - i.val % 3 / 2) % 12, 0, 0] := by
  refine Eq.trans ?_ (moved_eq ⟨i.val / 6, by omega⟩ ⟨i.val % 3 / 2, by omega⟩ t)
  fin_cases i <;> rfl

/-- Which block of its array each window of norms reads. -/
theorem index_norm (i : Fin 9) (t : Fin cfg0.N) :
    (![cc0_transform_9, cc0_transform_10, cc0_transform_11, cc0_transform_12, cc0_transform_13, cc0_transform_14, cc0_transform_15,
      cc0_transform_16, cc0_transform_17] : Fin 9 → grid0.Coords → Fin 5 → ℕ) i (grid0.coords t)
      = ![t.val / 144, (t.val / 12 % 12 + 12 - i.val / 6) % 12, (t.val % 12 + 12 - i.val % 3 / 2) % 12, 0, 0] := by
  refine Eq.trans ?_ (moved_eq ⟨i.val / 6, by omega⟩ ⟨i.val % 3 / 2, by omega⟩ t)
  fin_cases i <;> rfl

end Cert.KernelIdeal.Hand
-- ==== Proof.MatchReads.lean ====
/-
  The blocks the first kernel reads at each grid point, for any contents of the arrays it reads from.
-/
module

public import proofs.«01_k».proof.Proof.HostPre
public import proofs.«01_k».proof.Proof.MatchIndex

@[expose] public section

set_option maxRecDepth 16384

noncomputable section

namespace Cert.KernelIdeal.Hand

open Idealize.ShloMosaic Idealize.ShloMosaic.TcCoe Idealize.ShloMosaic.Pointwise Cert.KernelIdeal Cert.KernelIdeal.Gen Cert.Math
open Cert.KernelIdeal.Facts

/-! ## The blocks -/

/-- The video of a grid point. -/
def vid (t : Fin cfg0.N) : Fin 2 := ⟨t.val / 144, by have := points t; omega⟩

/-- The patch row of a grid point. -/
def prow (t : Fin cfg0.N) : Fin 12 := ⟨t.val / 12 % 12, Nat.mod_lt _ (by decide)⟩

/-- The patch column of a grid point. -/
def pcol (t : Fin cfg0.N) : Fin 12 := ⟨t.val % 12, Nat.mod_lt _ (by decide)⟩

/-- The patch row a shift reads. -/
def srow (i : Fin 9) (t : Fin cfg0.N) : Fin 12 := ⟨(t.val / 12 % 12 + 12 - i.val / 6) % 12, Nat.mod_lt _ (by decide)⟩

/-- The patch column a shift reads. -/
def scol (i : Fin 9) (t : Fin cfg0.N) : Fin 12 := ⟨(t.val % 12 + 12 - i.val % 3 / 2) % 12, Nat.mod_lt _ (by decide)⟩

/-- An array of patches read through a block. -/
theorem at_patch (f : S2x12x12x1024x25.Idx → EReal) (j : S2x12x12x1024x25.Idx) (i : Fin 9) (t : Fin cfg0.N) (T : Fin 5 → ℕ)
    (hT : T = ![t.val / 144, (t.val / 12 % 12 + 12 - i.val / 6) % 12, (t.val % 12 + 12 - i.val % 3 / 2) % 12, 0, 0])
    (k : Fin 1024) (a : Fin 25)
    (h : ∀ b, (j b).val = T b * S1x1x1x1024x25.size b + (ix5 (0 : Fin 1) (0 : Fin 1) (0 : Fin 1) k a b).val) :
    f j = f (ix5 (vid t) (srow i t) (scol i t) k a) := by
  congr 1
  subst hT
  funext b
  apply Fin.ext
  rw [h b]
  match b with
  | ⟨0, _⟩ => show t.val / 144 * 1 + 0 = t.val / 144; omega
  | ⟨1, _⟩ =>
      show (t.val / 12 % 12 + 12 - i.val / 6) % 12 * 1 + 0 = (t.val / 12 % 12 + 12 - i.val / 6) % 12; omega
  | ⟨2, _⟩ =>
      show (t.val % 12 + 12 - i.val % 3 / 2) % 12 * 1 + 0 = (t.val % 12 + 12 - i.val % 3 / 2) % 12; omega
  | ⟨3, _⟩ => show 0 * 1024 + k.val = k.val; omega
  | ⟨4, _⟩ => show 0 * 25 + a.val = a.val; omega

/-- An array of squared norms read through a block. -/
theorem at_norm (f : S2x12x12x1x25.Idx → EReal) (j : S2x12x12x1x25.Idx) (i : Fin 9) (t : Fin cfg0.N) (T : Fin 5 → ℕ)
    (hT : T = ![t.val / 144, (t.val / 12 % 12 + 12 - i.val / 6) % 12, (t.val % 12 + 12 - i.val % 3 / 2) % 12, 0, 0])
    (a : Fin 25)
    (h : ∀ b, (j b).val = T b * S1x1x1x1x25.size b + (ix5 (0 : Fin 1) (0 : Fin 1) (0 : Fin 1) (0 : Fin 1) a b).val) :
    f j = f (ix5 (vid t) (srow i t) (scol i t) (0 : Fin 1) a) := by
  congr 1
  subst hT
  funext b
  apply Fin.ext
  rw [h b]
  match b with
  | ⟨0, _⟩ => show t.val / 144 * 1 + 0 = t.val / 144; omega
  | ⟨1, _⟩ =>
      show (t.val / 12 % 12 + 12 - i.val / 6) % 12 * 1 + 0 = (t.val / 12 % 12 + 12 - i.val / 6) % 12; omega
  | ⟨2, _⟩ =>
      show (t.val % 12 + 12 - i.val % 3 / 2) % 12 * 1 + 0 = (t.val % 12 + 12 - i.val % 3 / 2) % 12; omega
  | ⟨3, _⟩ => show 0 * 1 + 0 = 0; omega
  | ⟨4, _⟩ => show 0 * 25 + a.val = a.val; omega

section Reads

variable (c : Dev nD) (V : (c : Dev nD) → (b : Ref sig .tc) → Buf (Elt Ideal) ((c : Thread nD τ).loc b))

/-- The nine candidate blocks of a grid point. -/
theorem iblk_patch (t : Fin cfg0.N) (k : Fin 1024) (a : Fin 25) : ∀ i : Fin 9,
    (![iblk0 V c 0 t, iblk0 V c 1 t, iblk0 V c 2 t, iblk0 V c 3 t, iblk0 V c 4 t, iblk0 V c 5 t, iblk0 V c 6 t, iblk0 V c 7 t,
      iblk0 V c 8 t] i : Vec Ideal S1x1x1x1024x25 .f32) (ix5 (0 : Fin 1) (0 : Fin 1) (0 : Fin 1) k a)
      = (![V c main_v2, V c main_v11, V c main_v2, V c main_v20, V c main_v29, V c main_v20, V c main_v2, V c main_v11, V c main_v2] i
          : Vec Ideal S2x12x12x1024x25 .f32) (ix5 (vid t) (srow i t) (scol i t) k a)
  | 0 => (show _ = V c main_v2 ((win0_0.rect t).emb _) from rfl).trans
      (at_patch _ _ 0 t _ (index_patch 0 t) k a fun b => win0_0.rect_emb_val t _ b)
  | 1 => (show _ = V c main_v11 ((win0_1.rect t).emb _) from rfl).trans
      (at_patch _ _ 1 t _ (index_patch 1 t) k a fun b => win0_1.rect_emb_val t _ b)
  | 2 => (show _ = V c main_v2 ((win0_2.rect t).emb _) from rfl).trans
      (at_patch _ _ 2 t _ (index_patch 2 t) k a fun b => win0_2.rect_emb_val t _ b)
  | 3 => (show _ = V c main_v20 ((win0_3.rect t).emb _) from rfl).trans
      (at_patch _ _ 3 t _ (index_patch 3 t) k a fun b => win0_3.rect_emb_val t _ b)
  | 4 => (show _ = V c main_v29 ((win0_4.rect t).emb _) from rfl).trans
      (at_patch _ _ 4 t _ (index_patch 4 t) k a fun b => win0_4.rect_emb_val t _ b)
  | 5 => (show _ = V c main_v20 ((win0_5.rect t).emb _) from rfl).trans
      (at_patch _ _ 5 t _ (index_patch 5 t) k a fun b => win0_5.rect_emb_val t _ b)
  | 6 => (show _ = V c main_v2 ((win0_6.rect t).emb _) from rfl).trans
      (at_patch _ _ 6 t _ (index_patch 6 t) k a fun b => win0_6.rect_emb_val t _ b)
  | 7 => (show _ = V c main_v11 ((win0_7.rect t).emb _) from rfl).trans
      (at_patch _ _ 7 t _ (index_patch 7 t) k a fun b => win0_7.rect_emb_val t _ b)
  | 8 => (show _ = V c main_v2 ((win0_8.rect t).emb _) from rfl).trans
      (at_patch _ _ 8 t _ (index_patch 8 t) k a fun b => win0_8.rect_emb_val t _ b)

/-- The nine blocks of squared norms of a grid point. -/
theorem iblk_norm (t : Fin cfg0.N) (a : Fin 25) : ∀ i : Fin 9,
    (![iblk0 V c 9 t, iblk0 V c 10 t, iblk0 V c 11 t, iblk0 V c 12 t, iblk0 V c 13 t, iblk0 V c 14 t, iblk0 V c 15 t, iblk0 V c 16 t,
      iblk0 V c 17 t] i : Vec Ideal S1x1x1x1x25 .f32) (ix5 (0 : Fin 1) (0 : Fin 1) (0 : Fin 1) (0 : Fin 1) a)
      = (![V c main_v7, V c main_v16, V c main_v7, V c main_v25, V c main_v34, V c main_v25, V c main_v7, V c main_v16, V c main_v7] i
          : Vec Ideal S2x12x12x1x25 .f32) (ix5 (vid t) (srow i t) (scol i t) (0 : Fin 1) a)
  | 0 => (show _ = V c main_v7 ((win0_9.rect t).emb _) from rfl).trans
      (at_norm _ _ 0 t _ (index_norm 0 t) a fun b => win0_9.rect_emb_val t _ b)
  | 1 => (show _ = V c main_v16 ((win0_10.rect t).emb _) from rfl).trans
      (at_norm _ _ 1 t _ (index_norm 1 t) a fun b => win0_10.rect_emb_val t _ b)
  | 2 => (show _ = V c main_v7 ((win0_11.rect t).emb _) from rfl).trans
      (at_norm _ _ 2 t _ (index_norm 2 t) a fun b => win0_11.rect_emb_val t _ b)
  | 3 => (show _ = V c main_v25 ((win0_12.rect t).emb _) from rfl).trans
      (at_norm _ _ 3 t _ (index_norm 3 t) a fun b => win0_12.rect_emb_val t _ b)
  | 4 => (show _ = V c main_v34 ((win0_13.rect t).emb _) from rfl).trans
      (at_norm _ _ 4 t _ (index_norm 4 t) a fun b => win0_13.rect_emb_val t _ b)
  | 5 => (show _ = V c main_v25 ((win0_14.rect t).emb _) from rfl).trans
      (at_norm _ _ 5 t _ (index_norm 5 t) a fun b => win0_14.rect_emb_val t _ b)
  | 6 => (show _ = V c main_v7 ((win0_15.rect t).emb _) from rfl).trans
      (at_norm _ _ 6 t _ (index_norm 6 t) a fun b => win0_15.rect_emb_val t _ b)
  | 7 => (show _ = V c main_v16 ((win0_16.rect t).emb _) from rfl).trans
      (at_norm _ _ 7 t _ (index_norm 7 t) a fun b => win0_16.rect_emb_val t _ b)
  | 8 => (show _ = V c main_v7 ((win0_17.rect t).emb _) from rfl).trans
      (at_norm _ _ 8 t _ (index_norm 8 t) a fun b => win0_17.rect_emb_val t _ b)

/-- The weights' block is the whole array. -/
theorem iblk_weights (t : Fin cfg0.N) (q : Fin 384) (o : Fin 64) :
    (iblk0 V c 18 t : Vec Ideal S384x64 .f32) (ix2 q o) = (V c main_v36 : Vec Ideal S384x64 .f32) (ix2 q o) := by
  refine (show _ = V c main_v36 ((win0_18.rect t).emb (ix2 q o)) from rfl).trans (congrArg (V c main_v36) ?_)
  funext b
  apply Fin.ext
  rw [win0_18.rect_emb_val t _ b]
  match b with
  | ⟨0, _⟩ => show 0 * 384 + q.val = q.val; omega
  | ⟨1, _⟩ => show 0 * 64 + o.val = o.val; omega

end Reads

/-! ## The blocks as shifted patches of the feature map -/

/-- The rolled copies the nine shifts read. -/
def base (x : Vec Ideal S50x64x48x48 .f32) : Fin 9 → Vec Ideal S50x64x48x48 .f32 :=
  ![x, right2 (down0 x), x, right0 (down2 x), right2 (down2 x), right0 (down2 x), x, right2 (down0 x), x]

theorem base_apply (x : Vec Ideal S50x64x48x48 .f32) (b : Fin 50) (ch : Fin 64) (y z : Fin 48) : ∀ i : Fin 9,
    base x i (ix4 b ch y z) = x (ix4 b ch ⟨(y.val + 48 - 2 * (i.val / 3) % 4) % 48, by omega⟩ ⟨(z.val + 48 - 2 * (i.val % 3) % 4) % 48, by omega⟩) := by
  have at_ : ∀ (y' z' : Fin 48), y' = y → z' = z → x (ix4 b ch y z) = x (ix4 b ch y' z') := fun _ _ h1 h2 => by rw [h1, h2]
  have r0 : ∀ (v : Vec Ideal S50x64x48x48 .f32) (y z z' : Fin 48), (z.val + 48) % 48 = z'.val → right0 v (ix4 b ch y z) = v (ix4 b ch y z') :=
    fun v y z z' h => (right0_apply v b ch y z).trans (by rw [show z' = z from Fin.ext (by omega)])
  have r2 : ∀ (v : Vec Ideal S50x64x48x48 .f32) (y z z' : Fin 48), (z.val + 46) % 48 = z'.val → right2 v (ix4 b ch y z) = v (ix4 b ch y z') :=
    fun v y z z' h => (right2_apply v b ch y z).trans (by rw [show z' = ⟨(z.val + 46) % 48, by omega⟩ from Fin.ext h.symm])
  have d0 : ∀ (v : Vec Ideal S50x64x48x48 .f32) (y y' z : Fin 48), (y.val + 48) % 48 = y'.val → down0 v (ix4 b ch y z) = v (ix4 b ch y' z) :=
    fun v y y' z h => (down0_apply v b ch y z).trans (by rw [show y' = y from Fin.ext (by omega)])
  have d2 : ∀ (v : Vec Ideal S50x64x48x48 .f32) (y y' z : Fin 48), (y.val + 46) % 48 = y'.val → down2 v (ix4 b ch y z) = v (ix4 b ch y' z) :=
    fun v y y' z h => (down2_apply v b ch y z).trans (by rw [show y' = ⟨(y.val + 46) % 48, by omega⟩ from Fin.ext h.symm])
  have n : ∀ u : Fin 48, (⟨(u.val + 48) % 48, by omega⟩ : Fin 48) = u := fun u => Fin.ext (by show (u.val + 48) % 48 = u.val; omega)
  intro i
  match i with
  | 0 | 2 | 6 | 8 => exact at_ _ _ (n y) (n z)
  | 1 | 7 => exact (r2 _ y z _ rfl).trans (d0 _ y _ _ rfl)
  | 3 | 5 => exact (r0 _ y z _ rfl).trans (d2 _ y _ _ rfl)
  | 4 => exact (r2 _ y z _ rfl).trans (d2 _ y _ _ rfl)

/-- A patch of a rolled copy, moved back, is the shifted patch. -/
theorem base_feat (x : Vec Ideal S50x64x48x48 .f32) (i : Fin 9) (t : Fin cfg0.N) (k : Fin 1024) (a : Fin 25) :
    patches (base x i) (ix5 (vid t) (srow i t) (scol i t) k a) = feat x (vid t) (prow t) (pcol t) i k a := by
  rw [patches_apply, base_apply]
  unfold feat
  have e1 : ∀ (p : ℕ) (d r : ℕ), d < 2 → r < 4 → p < 12 → ∀ s, s < 4 → ((p + 12 - d) % 12 * 4 + r + 48 - s) % 48 = (p * 4 + r + 48 - (4 * d + s)) % 48 := by
    intro p d r hd hr hp s hs; omega
  have hi := i.isLt
  congr 2
  · apply Fin.ext
    show ((t.val / 12 % 12 + 12 - i.val / 6) % 12 * 4 + k.val / 4 % 4 + 48 - 2 * (i.val / 3) % 4) % 48
      = (t.val / 12 % 12 * 4 + k.val / 4 % 4 + 48 - 2 * (i.val / 3)) % 48
    rw [e1 _ _ _ (by omega) (by omega) (by omega) _ (by omega), show 4 * (i.val / 6) + 2 * (i.val / 3) % 4 = 2 * (i.val / 3) by omega]
  · apply Fin.ext
    show ((t.val % 12 + 12 - i.val % 3 / 2) % 12 * 4 + k.val % 4 + 48 - 2 * (i.val % 3) % 4) % 48
      = (t.val % 12 * 4 + k.val % 4 + 48 - 2 * (i.val % 3)) % 48
    rw [e1 _ _ _ (by omega) (by omega) (by omega) _ (by omega), show 4 * (i.val % 3 / 2) + 2 * (i.val % 3) % 4 = 2 * (i.val % 3) by omega]

/-- The patches of the nine rolled copies. -/
theorem patches_base (x : Vec Ideal S50x64x48x48 .f32) : ∀ i : Fin 9,
    (![patches x, patches (right2 (down0 x)), patches x, patches (right0 (down2 x)), patches (right2 (down2 x)),
      patches (right0 (down2 x)), patches x, patches (right2 (down0 x)), patches x] i : Vec Ideal S2x12x12x1024x25 .f32) = patches (base x i)
  | 0 => rfl
  | 1 => rfl
  | 2 => rfl
  | 3 => rfl
  | 4 => rfl
  | 5 => rfl
  | 6 => rfl
  | 7 => rfl
  | 8 => rfl

/-- The squared norms of the nine rolled copies. -/
theorem norms_base (x : Vec Ideal S50x64x48x48 .f32) : ∀ i : Fin 9,
    (![norms (patches x), norms (patches (right2 (down0 x))), norms (patches x), norms (patches (right0 (down2 x))),
      norms (patches (right2 (down2 x))), norms (patches (right0 (down2 x))), norms (patches x), norms (patches (right2 (down0 x))),
      norms (patches x)] i : Vec Ideal S2x12x12x1x25 .f32) = norms (patches (base x i))
  | 0 => rfl
  | 1 => rfl
  | 2 => rfl
  | 3 => rfl
  | 4 => rfl
  | 5 => rfl
  | 6 => rfl
  | 7 => rfl
  | 8 => rfl

section Contents

variable (c : Dev nD) (V : (c : Dev nD) → (b : Ref sig .tc) → Buf (Elt Ideal) ((c : Thread nD τ).loc b))
variable (x : Vec Ideal S50x64x48x48 .f32)

/-- Each candidate block holds its shifted patch. -/
theorem block_feat (h2 : V c main_v2 = patches x) (h11 : V c main_v11 = patches (right2 (down0 x)))
    (h20 : V c main_v20 = patches (right0 (down2 x))) (h29 : V c main_v29 = patches (right2 (down2 x)))
    (t : Fin cfg0.N) (i : Fin 9) (k : Fin 1024) (a : Fin 25) :
    (![iblk0 V c 0 t, iblk0 V c 1 t, iblk0 V c 2 t, iblk0 V c 3 t, iblk0 V c 4 t, iblk0 V c 5 t, iblk0 V c 6 t, iblk0 V c 7 t,
      iblk0 V c 8 t] i : Vec Ideal S1x1x1x1024x25 .f32)
      (ix5 (0 : Fin 1) (0 : Fin 1) (0 : Fin 1) k a) = feat x (vid t) (prow t) (pcol t) i k a := by
  rw [iblk_patch, h2, h11, h20, h29, ← base_feat, patches_base]

/-- Each block of norms holds its shifted patch's squared norms. -/
theorem block_norm (h7 : V c main_v7 = norms (patches x)) (h16 : V c main_v16 = norms (patches (right2 (down0 x))))
    (h25 : V c main_v25 = norms (patches (right0 (down2 x)))) (h34 : V c main_v34 = norms (patches (right2 (down2 x))))
    (t : Fin cfg0.N) (i : Fin 9) (a : Fin 25) :
    (![iblk0 V c 9 t, iblk0 V c 10 t, iblk0 V c 11 t, iblk0 V c 12 t, iblk0 V c 13 t, iblk0 V c 14 t, iblk0 V c 15 t,
      iblk0 V c 16 t, iblk0 V c 17 t] i : Vec Ideal S1x1x1x1x25 .f32)
      (ix5 (0 : Fin 1) (0 : Fin 1) (0 : Fin 1) (0 : Fin 1) a)
      = ∑ k : Fin 1024, feat x (vid t) (prow t) (pcol t) i k a * feat x (vid t) (prow t) (pcol t) i k a := by
  rw [iblk_norm, h7, h16, h25, h34, norms_base, norms_apply]
  simp only [base_feat]

/-- The block of weights. -/
theorem block_weights (w : Vec Ideal S64x384x1x1 .f32) (h36 : V c main_v36 = weights w) (t : Fin cfg0.N) (q : Fin 384) (o : Fin 64) :
    (iblk0 V c 18 t : Vec Ideal S384x64 .f32) (ix2 q o) = w (ix4 o q (0 : Fin 1) (0 : Fin 1)) := by
  rw [iblk_weights, h36, weights_apply]

end Contents

end Cert.KernelIdeal.Hand

end
-- ==== Proof.MatchEntry.lean ====
/-
  What the arrays hold when the first kernel starts: patches of rolled copies of the feature map, their squared norms, the weights.
-/
module

public import proofs.«01_k».proof.Proof.HostPre

@[expose] public section

set_option maxRecDepth 16384

noncomputable section

namespace Cert.KernelIdeal.Hand

open Idealize.ShloMosaic Idealize.ShloMosaic.TcCoe Idealize.ShloMosaic.Pointwise Cert.KernelIdeal Cert.KernelIdeal.Gen Cert.Math
open Cert.KernelIdeal.Facts

variable (m : (ℓ : Loc nD τ sig) → Buf (Elt Ideal) ℓ) (ρ : Dev nD → PrngReg) (c : Dev nD)

/-- The feature map on a device. -/
abbrev X : Vec Ideal S50x64x48x48 .f32 := m ((c : Thread nD τ).loc main_arg0)

/-- The weights of the 1 × 1 convolution on a device. -/
abbrev Wa : Vec Ideal S64x384x1x1 .f32 := m ((c : Thread nD τ).loc main_arg1)

/-! ## The arrays at the first kernel's entry -/

theorem W7_v2 : V7 m ρ c main_v2 = patches (X m c) :=
  (W7_of m ρ c main_v2 (by decide)).trans <| (W6_of m ρ c main_v2 (by decide)).trans <| (W5_of m ρ c main_v2 (by decide)).trans <|
    (W4_of m ρ c main_v2 (by decide)).trans <| (W3_of m ρ c main_v2 (by decide)).trans <| (W2_of m ρ c main_v2 (by decide)).trans <|
    (seg0_v2 (W0 m ρ c))

theorem W7_v7 : V7 m ρ c main_v7 = norms (patches (X m c)) :=
  (W7_of m ρ c main_v7 (by decide)).trans <| (W6_of m ρ c main_v7 (by decide)).trans <| (W5_of m ρ c main_v7 (by decide)).trans <|
    (W4_of m ρ c main_v7 (by decide)).trans <| (W3_of m ρ c main_v7 (by decide)).trans <| (W2_of m ρ c main_v7 (by decide)).trans <|
    (seg0_v7 (W0 m ρ c))

theorem W2_v8 : W2 m ρ c (Proc.devRef .tc main_v8) = right2 (down0 (X m c)) :=
  (seg1_v8 (W1 m ρ c)).trans (by rw [W1_args m ρ c main_arg0 (by decide)])

theorem W4_v17 : W4 m ρ c (Proc.devRef .tc main_v17) = right0 (down2 (X m c)) :=
  (seg3_v17 (W3 m ρ c)).trans (by rw [W3_args m ρ c main_arg0 (by decide)])

theorem W6_v26 : W6 m ρ c (Proc.devRef .tc main_v26) = right2 (down2 (X m c)) :=
  (seg5_v26 (W5 m ρ c)).trans (by rw [W5_args m ρ c main_arg0 (by decide)])

theorem W7_v11 : V7 m ρ c main_v11 = patches (right2 (down0 (X m c))) :=
  (W7_of m ρ c main_v11 (by decide)).trans <| (W6_of m ρ c main_v11 (by decide)).trans <| (W5_of m ρ c main_v11 (by decide)).trans <|
    (W4_of m ρ c main_v11 (by decide)).trans <| (seg2_v11 (W2 m ρ c)).trans (by rw [W2_v8])

theorem W7_v16 : V7 m ρ c main_v16 = norms (patches (right2 (down0 (X m c)))) :=
  (W7_of m ρ c main_v16 (by decide)).trans <| (W6_of m ρ c main_v16 (by decide)).trans <| (W5_of m ρ c main_v16 (by decide)).trans <|
    (W4_of m ρ c main_v16 (by decide)).trans <| (seg2_v16 (W2 m ρ c)).trans (by rw [W2_v8])

theorem W7_v20 : V7 m ρ c main_v20 = patches (right0 (down2 (X m c))) :=
  (W7_of m ρ c main_v20 (by decide)).trans <| (W6_of m ρ c main_v20 (by decide)).trans <| (seg4_v20 (W4 m ρ c)).trans (by rw [W4_v17])

theorem W7_v25 : V7 m ρ c main_v25 = norms (patches (right0 (down2 (X m c)))) :=
  (W7_of m ρ c main_v25 (by decide)).trans <| (W6_of m ρ c main_v25 (by decide)).trans <| (seg4_v25 (W4 m ρ c)).trans (by rw [W4_v17])

theorem W7_v29 : V7 m ρ c main_v29 = patches (right2 (down2 (X m c))) :=
  (seg6_v29 (W6 m ρ c)).trans (by rw [W6_v26])

theorem W7_v34 : V7 m ρ c main_v34 = norms (patches (right2 (down2 (X m c)))) :=
  (seg6_v34 (W6 m ρ c)).trans (by rw [W6_v26])

theorem W7_v36 : V7 m ρ c main_v36 = weights (Wa m c) :=
  (seg6_v36 (W6 m ρ c)).trans (by rw [W6_args m ρ c main_arg1 (by decide)])

end Cert.KernelIdeal.Hand

end
-- ==== Proof.Amin.lean ====
/-
  Facts about the first least entry of a row: its value, what lies before it, and the rounds built from it.
-/
module

public import proofs.«01_k».proof.Proof.Spec

@[expose] public section

noncomputable section

namespace Cert.Math

open Idealize.ShloMosaic Idealize.ShloMosaic.Pointwise

theorem amin_mem (v : Fin 225 → EReal) : amin v ∈ Finset.univ.filter fun j => v j = Finset.univ.inf v := by
  unfold amin
  exact Finset.min'_mem _ _

/-- The chosen entry is the least. -/
theorem amin_val (v : Fin 225 → EReal) : v (amin v) = Finset.univ.inf v := (Finset.mem_filter.mp (amin_mem v)).2

/-- The chosen entry is at most every other. -/
theorem amin_le (v : Fin 225 → EReal) (j : Fin 225) : v (amin v) ≤ v j := by
  rw [amin_val v]; exact Finset.inf_le (Finset.mem_univ j)

/-- An entry equal to the least lies at or after the chosen one. -/
theorem amin_first (v : Fin 225 → EReal) (j : Fin 225) (h : v j = Finset.univ.inf v) : amin v ≤ j := by
  unfold amin
  exact Finset.min'_le _ _ (Finset.mem_filter.mpr ⟨Finset.mem_univ j, h⟩)

/-- An entry before the chosen one is larger. -/
theorem amin_before (v : Fin 225 → EReal) (j : Fin 225) (h : j < amin v) : v j ≠ Finset.univ.inf v :=
  fun e => absurd (amin_first v j e) (not_le.mpr h)

/-- A place whose entry is at most every other and strictly below those before it is the chosen one. -/
theorem amin_eq (v : Fin 225 → EReal) (p : Fin 225) (hle : ∀ j, v p ≤ v j) (hlt : ∀ j, j < p → v p < v j) : amin v = p := by
  have hp : v p = Finset.univ.inf v := le_antisymm (Finset.le_inf fun j _ => hle j) (Finset.inf_le (Finset.mem_univ p))
  refine le_antisymm (amin_first v p hp) (not_lt.mp fun h => ?_)
  have h1 := hlt _ h
  rw [amin_val v, hp] at h1
  exact lt_irrefl _ h1

/-- The fold of the minimum from the top is the least entry. -/
theorem fold_min_top (v : Fin 225 → EReal) (b : EReal) (hb : b = ⊤) : Finset.univ.fold min b v = Finset.univ.inf v := by
  subst hb; rfl

end Cert.Math

end
-- ==== Proof.Mask.lean ====
/-
  One round of the kernel's search: the place of the first least score of each row.
-/
module

public import proofs.«01_k».proof.Proof.Amin
public import proofs.«01_k».proof.Proof.Gen.KernelIdeal.Frame

@[expose] public section

set_option maxRecDepth 16384

noncomputable section

namespace Cert.KernelIdeal.Hand

open Idealize.ShloMosaic Idealize.ShloMosaic.Pointwise Cert.KernelIdeal Cert.KernelIdeal.Gen Cert.Math
open Cert.KernelIdeal.Facts

/-- The column numbers of the score table. -/
def cols : IVec S25x225 32 := iota .tc S25x225 32 [1] iota_S25x225_d1_w32

/-- Where a row attains its least value. -/
def hits (s : FVec Ideal S25x225 .f32) : IVec S25x225 1 :=
  cmpf .oeq s (broadcastTo S25x225 (shapeCast S25x1
    (multiReduction .minimumf [1] S25 s 0x7F800000#32 reduces_S25x225_S25 (.inl rfl) rfl) shapeCasts_S25_S25x1)
    broadcasts_S25x1_S25x225)

/-- The first marked column of each row, as a mask. -/
def firstOf (t : IVec S25x225 1) : IVec S25x225 1 :=
  cmpi .eq cols (broadcastTo S25x225 (shapeCast S25x1
    (multiReductionI .minsi [1] S25 (select t cols (broadcast S25x225 225#32)) 2147483647#32 reduces_S25x225_S25 rfl)
    shapeCasts_S25_S25x1) broadcasts_S25x1_S25x225)

theorem hits_apply (s : FVec Ideal S25x225 .f32) (a : Fin 25) (j : Fin 225) :
    hits s (ix2 a j) = if s (ix2 a j) = Finset.univ.inf (fun x => s (ix2 a x)) then 1#1 else 0#1 := by
  pointwise [hits]
  rw [fold_min_top _ _ (by simp [Ideal.ofBits, Ideal.ieee])]
  by_cases h : s (ix2 a j) = Finset.univ.inf (fun x => s (ix2 a x)) <;> simp [h]

theorem toInt_fold_minsi (z : BitVec 32) (f : Fin 225 → BitVec 32) :
    (Finset.univ.fold IntOp.minsi z f).toInt = Finset.univ.fold min z.toInt fun x => (f x).toInt := by
  refine (Finset.fold_hom (m := BitVec.toInt) (op := IntOp.minsi) (op' := min) fun x y => ?_).symm
  unfold IntOp.minsi
  simp only [BitVec.slt]
  by_cases h : x.toInt < y.toInt
  · simp [h, le_of_lt h]
  · simp [h, not_lt.mp h]

theorem toInt_col (j : ℕ) (h : j ≤ 225) : (BitVec.ofNat 32 j).toInt = j := by
  have h2 : (BitVec.ofNat 32 j).toNat = j := by rw [BitVec.toNat_ofNat]; omega
  rw [BitVec.toInt_eq_toNat_of_lt (by omega), h2]

/-- The mask of the first marked column. -/
theorem firstOf_apply (t : IVec S25x225 1) (a : Fin 25) (p : Fin 225) (hp : t (ix2 a p) = 1#1)
    (hlt : ∀ j, j < p → t (ix2 a j) = 0#1) (j : Fin 225) :
    firstOf t (ix2 a j) = if j = p then 1#1 else 0#1 := by
  pointwise [firstOf, cols]
  have key : Finset.fold IntOp.minsi (2147483647#32)
      (fun x : Fin 225 => Scalar.select (t (ix2 a x)) (BitVec.ofNat 32 x.val) 225#32) Finset.univ = BitVec.ofNat 32 p.val := by
    apply BitVec.eq_of_toInt_eq
    have hpc := toInt_col p.val (by omega)
    rw [toInt_fold_minsi]
    refine le_antisymm ((Finset.fold_min_le _).mpr (Or.inr ⟨p, Finset.mem_univ p, ?_⟩)) ((Finset.le_fold_min _).mpr ⟨?_, fun x _ => ?_⟩)
    · simp only [hp, Scalar.select]; exact le_of_eq (by simp)
    · have : (2147483647#32 : BitVec 32).toInt = 2147483647 := by decide
      omega
    · have h225 : (225#32 : BitVec 32).toInt = 225 := by decide
      rcases lt_or_ge x p with h | h
      · simp only [hlt x h, Scalar.select]; rw [if_neg (by decide), h225]; omega
      · unfold Scalar.select
        have := Fin.le_def.mp h
        split
        · rw [toInt_col x.val (by omega)]; omega
        · rw [h225]; omega
  rw [key]
  unfold IntOp.cmpi
  by_cases h : j = p
  · subst h; simp
  · rw [if_neg h]
    have : ¬ BitVec.ofNat 32 j.val = BitVec.ofNat 32 p.val := by
      intro e
      have := congrArg BitVec.toNat e
      simp only [BitVec.toNat_ofNat] at this
      exact h (Fin.ext (by omega))
    rw [beq_eq_false_iff_ne.mpr this]; rfl

/-- The mask of a round: the first least score of each row. -/
theorem mask_apply (s : FVec Ideal S25x225 .f32) (a : Fin 25) (j : Fin 225) :
    firstOf (hits s) (ix2 a j) = if j = amin (fun x => s (ix2 a x)) then 1#1 else 0#1 := by
  refine firstOf_apply _ a _ ?_ (fun k hk => ?_) j
  · rw [hits_apply, if_pos (amin_val fun x => s (ix2 a x))]
  · rw [hits_apply, if_neg (amin_before (fun x => s (ix2 a x)) k hk)]

/-- The scores with a round's choice masked out. -/
def knock (s : FVec Ideal S25x225 .f32) : FVec Ideal S25x225 .f32 :=
  select (firstOf (hits s)) (broadcast S25x225 (Scalar.ofBits .f32 0x7F7FC99E#32)) s

theorem knock_apply (s : FVec Ideal S25x225 .f32) (a : Fin 25) (j : Fin 225) :
    knock s (ix2 a j) = if j = amin (fun x => s (ix2 a x)) then Ideal.ofBits .f32 0x7F7FC99E#32 else s (ix2 a j) := by
  unfold knock
  simp only [select, mask_apply]
  unfold Scalar.select
  by_cases h : j = amin (fun x => s (ix2 a x)) <;> simp [h, broadcast] <;> rfl

/-- The scores after `r` rounds. -/
def state (s : FVec Ideal S25x225 .f32) : ℕ → FVec Ideal S25x225 .f32
  | 0 => s
  | r + 1 => knock (state s r)

theorem state_apply (s : FVec Ideal S25x225 .f32) (r : ℕ) (a : Fin 25) (j : Fin 225) :
    state s r (ix2 a j) = rest (fun x => s (ix2 a x)) r j := by
  induction r generalizing j with
  | zero => rfl
  | succ r ih =>
      have e : (fun x => state s r (ix2 a x)) = rest (fun x => s (ix2 a x)) r := funext ih
      show knock (state s r) (ix2 a j) = _
      rw [knock_apply, e, ih]; rfl

/-- A mask as numbers. -/
def asNum (t : IVec S25x225 1) : FVec Ideal S25x225 .f32 := sitofp .f32 (extui 32 t natLt_1_32)

/-- The chosen column of round `r` as a row of zeros with a single one. -/
theorem oneHot_apply (s : FVec Ideal S25x225 .f32) (r : ℕ) (a : Fin 25) (j : Fin 225) :
    asNum (firstOf (hits (state s r))) (ix2 a j) = if j = pick (fun x => s (ix2 a x)) r then 1 else 0 := by
  have e : (fun x => state s r (ix2 a x)) = rest (fun x => s (ix2 a x)) r := funext (state_apply s r a)
  have h := mask_apply (state s r) a j
  rw [e] at h
  pointwise [asNum]
  rw [h]
  unfold pick
  by_cases h : j = amin (rest (fun x => s (ix2 a x)) r)
  · simp only [if_pos h]; show (((1#32 : BitVec 32).toInt : ℝ) : EReal) = 1; simp
  · simp only [if_neg h]; show (((0#32 : BitVec 32).toInt : ℝ) : EReal) = 0; simp

end Cert.KernelIdeal.Hand

end
-- ==== Proof.MatchTail.lean ====
/-
  The matching kernel's body after the search: gathering the chosen candidates and the 1 × 1 convolution.
-/
module

public import proofs.«01_k».proof.Proof.Mask

@[expose] public section

set_option maxRecDepth 16384

noncomputable section

namespace Cert.KernelIdeal.Hand

open Idealize.ShloMosaic Idealize.ShloMosaic.Pointwise Cert.KernelIdeal Cert.KernelIdeal.Gen Cert.Math
open Cert.KernelIdeal.Facts

/-- Of six rows of choices, stacked one after another, the one a column of the result belongs to. -/
theorem sixth (P : ℕ → Fin 25 → Fin 225) (g0 g1 g2 g3 g4 g5 : FVec Ideal S25x225 .f32)
    (h0 : ∀ a j, g0 (ix2 a j) = if j = P 0 a then 1 else 0) (h1 : ∀ a j, g1 (ix2 a j) = if j = P 1 a then 1 else 0)
    (h2 : ∀ a j, g2 (ix2 a j) = if j = P 2 a then 1 else 0) (h3 : ∀ a j, g3 (ix2 a j) = if j = P 3 a then 1 else 0)
    (h4 : ∀ a j, g4 (ix2 a j) = if j = P 4 a then 1 else 0) (h5 : ∀ a j, g5 (ix2 a j) = if j = P 5 a then 1 else 0)
    (u r : ℕ) (a b : Fin 25) (j : Fin 225) (hr : u % 6 = r) (hb : b = a) :
    (if _ : u % 6 < 1 then g0 (ix2 b j) else if _ : u % 6 - 1 < 1 then g1 (ix2 b j) else if _ : u % 6 - 1 - 1 < 1 then g2 (ix2 b j)
      else if _ : u % 6 - 1 - 1 - 1 < 1 then g3 (ix2 b j) else if _ : u % 6 - 1 - 1 - 1 - 1 < 1 then g4 (ix2 b j)
      else g5 (ix2 b j)) = if j = P r a then 1 else 0 := by
  subst hb
  have hlt : u % 6 < 6 := Nat.mod_lt _ (by decide)
  rw [hr] at hlt ⊢
  have : r = 0 ∨ r = 1 ∨ r = 2 ∨ r = 3 ∨ r = 4 ∨ r = 5 := by omega
  rcases this with h | h | h | h | h | h <;> subst h <;> simp [h0, h1, h2, h3, h4, h5]

/-- A column of the table against a row of zeros with a single one. -/
theorem sum_pick (f : Fin 225 → EReal) (k : Fin 225) : (∑ j : Fin 225, f j * if j = k then 1 else 0) = f k := by
  rw [Finset.sum_eq_single k]
  · simp
  · intro j _ h; simp [h]
  · intro h; exact absurd (Finset.mem_univ k) h

set_option maxHeartbeats 4000000 in
/-- What the body stores, from the table of candidates, the weights and the six choices. -/
theorem pay1_apply (P : ℕ → Fin 25 → Fin 225) (C : FVec Ideal S1024x225 .f32) (w : FVec Ideal S384x64 .f32)
    (g0 g1 g2 g3 g4 : FVec Ideal S25x225 .f32) (t : IVec S25x225 1)
    (h0 : ∀ a j, g0 (ix2 a j) = if j = P 0 a then 1 else 0) (h1 : ∀ a j, g1 (ix2 a j) = if j = P 1 a then 1 else 0)
    (h2 : ∀ a j, g2 (ix2 a j) = if j = P 2 a then 1 else 0) (h3 : ∀ a j, g3 (ix2 a j) = if j = P 3 a then 1 else 0)
    (h4 : ∀ a j, g4 (ix2 a j) = if j = P 4 a then 1 else 0)
    (h5 : ∀ a j, asNum (firstOf t) (ix2 a j) = if j = P 5 a then 1 else 0) (p : Fin 400) (o : Fin 64) :
    k0_pay1 C w cols g0 g1 g2 g3 g4 t (ix5 (0 : Fin 1) (0 : Fin 1) (0 : Fin 1) p o)
      = leaky (∑ q : Fin 384, C (ix2 ⟨q.val % 64 * 16 + p.val % 16, by omega⟩ (P (q.val / 64) ⟨p.val / 16, by omega⟩))
          * w (ix2 q o)) := by
  generalize hg : asNum (firstOf t) = g5 at h5
  unfold asNum firstOf at hg
  unfold k0_pay1
  dsimp only
  generalize hz : leaky _ = z
  rw [hg]
  clear hg
  pointwise []
  rw [← hz]
  unfold leaky
  have key : ∀ (x : Fin 384) (j : Fin 225), _ := fun x j => sixth P g0 g1 g2 g3 g4 g5 h0 h1 h2 h3 h4 h5
    (p.val / 16 * 6 + x.val / 64) (x.val / 64) ⟨p.val / 16, by omega⟩ ⟨(p.val / 16 * 6 + x.val / 64) / 6, by omega⟩ j
    (by omega) (Fin.ext (by show (p.val / 16 * 6 + x.val / 64) / 6 = p.val / 16; omega))
  simp only [key, sum_pick]

end Cert.KernelIdeal.Hand

end
-- ==== Proof.MatchBody.lean ====
/-
  The matching kernel's body at an index: the 1 × 1 convolution of the six best candidates, `Cert.Math.spAt`.
-/
module

public import proofs.«01_k».proof.Proof.MatchTail

@[expose] public section

set_option maxRecDepth 16384

noncomputable section

namespace Cert.KernelIdeal.Hand

open Idealize.ShloMosaic Idealize.ShloMosaic.Pointwise Cert.KernelIdeal Cert.KernelIdeal.Gen Cert.Math
open Cert.KernelIdeal.Facts

variable (x0 x1 x2 x3 x4 x5 x6 x7 x8 : Vec Ideal S1x1x1x1024x25 .f32) (x9 x10 x11 x12 x13 x14 x15 x16 x17 : Vec Ideal S1x1x1x1x25 .f32)
  (x18 : Vec Ideal S384x64 .f32)

/-- The table of candidates. -/
def table : FVec Ideal S1024x225 .f32 :=
  k0_pay36 x0 x1 x2 x3 x4 x5 x6 x7 x8 x9 x10 x11 x12 x13 x14 x15 x16 x17 x18

/-- The table of scores. -/
def scores : FVec Ideal S25x225 .f32 :=
  k0_pay19 (table x0 x1 x2 x3 x4 x5 x6 x7 x8 x9 x10 x11 x12 x13 x14 x15 x16 x17 x18)
    (k0_pay37 x0 x1 x2 x3 x4 x5 x6 x7 x8 x9 x10 x11 x12 x13 x14 x15 x16 x17 x18)
    (k0_pay38 x0 x1 x2 x3 x4 x5 x6 x7 x8 x9 x10 x11 x12 x13 x14 x15 x16 x17 x18)
    (k0_pay39 x0 x1 x2 x3 x4 x5 x6 x7 x8 x9 x10 x11 x12 x13 x14 x15 x16 x17 x18)
    (k0_pay40 x0 x1 x2 x3 x4 x5 x6 x7 x8 x9 x10 x11 x12 x13 x14 x15 x16 x17 x18)
    (k0_pay41 x0 x1 x2 x3 x4 x5 x6 x7 x8 x9 x10 x11 x12 x13 x14 x15 x16 x17 x18)
    (k0_pay42 x0 x1 x2 x3 x4 x5 x6 x7 x8 x9 x10 x11 x12 x13 x14 x15 x16 x17 x18)
    (k0_pay43 x0 x1 x2 x3 x4 x5 x6 x7 x8 x9 x10 x11 x12 x13 x14 x15 x16 x17 x18) (View.ld x16 r0_1) (View.ld x17 r0_1)

/-! The printed rounds, one by one. -/

section Rounds

variable (v18 : FVec Ideal S1024x225 .f32) (v20 v22 v24 v26 v28 v30 v32 : FVec Ideal S1x25 .f32) (v33 v35 : Vec Ideal S1x1x1x1x25 .f32)
  (s : FVec Ideal S25x225 .f32)

theorem pay20_eq : k0_pay20 v18 v20 v22 v24 v26 v28 v30 v32 v33 v35
    = firstOf (hits (k0_pay19 v18 v20 v22 v24 v26 v28 v30 v32 v33 v35)) := rfl

theorem pay21_eq : k0_pay21 v18 v20 v22 v24 v26 v28 v30 v32 v33 v35
    = asNum (firstOf (hits (k0_pay19 v18 v20 v22 v24 v26 v28 v30 v32 v33 v35))) := by
  unfold k0_pay21; rw [pay20_eq]; rfl

theorem pay22_eq : k0_pay22 v18 v20 v22 v24 v26 v28 v30 v32 v33 v35
    = knock (k0_pay19 v18 v20 v22 v24 v26 v28 v30 v32 v33 v35) := by
  unfold k0_pay22; rw [pay20_eq]; rfl

theorem pay23_eq : k0_pay23 v18 v20 v22 v24 v26 v28 v30 v32 v33 v35
    = firstOf (hits (knock (k0_pay19 v18 v20 v22 v24 v26 v28 v30 v32 v33 v35))) := by
  unfold k0_pay23; rw [pay22_eq]; rfl

theorem pay24_eq : k0_pay24 v18 v20 v22 v24 v26 v28 v30 v32 v33 v35
    = asNum (firstOf (hits (knock (k0_pay19 v18 v20 v22 v24 v26 v28 v30 v32 v33 v35)))) := by
  unfold k0_pay24; rw [pay23_eq]; rfl

theorem pay26_eq : k0_pay26 s (firstOf (hits s)) k0_pay25 = knock s := rfl

theorem pay27_eq : k0_pay27 cols s (firstOf (hits s)) k0_pay25 = firstOf (hits (knock s)) := by
  unfold k0_pay27; rw [pay26_eq]; rfl

theorem pay28_eq : k0_pay28 cols s (firstOf (hits s)) k0_pay25 = asNum (firstOf (hits (knock s))) := by
  unfold k0_pay28; rw [pay27_eq]; rfl

theorem pay29_eq : k0_pay29 cols s (firstOf (hits s)) k0_pay25 = knock (knock s) := by
  unfold k0_pay29; rw [pay27_eq, pay26_eq]; rfl

theorem pay30_eq : k0_pay30 cols s (firstOf (hits s)) k0_pay25 = firstOf (hits (knock (knock s))) := by
  unfold k0_pay30; rw [pay29_eq]; rfl

theorem pay31_eq : k0_pay31 cols s (firstOf (hits s)) k0_pay25 = asNum (firstOf (hits (knock (knock s)))) := by
  unfold k0_pay31; rw [pay30_eq]; rfl

theorem pay32_eq : k0_pay32 cols s (firstOf (hits s)) k0_pay25 = knock (knock (knock s)) := by
  unfold k0_pay32; rw [pay30_eq, pay29_eq]; rfl

theorem pay33_eq : k0_pay33 cols s (firstOf (hits s)) k0_pay25 = firstOf (hits (knock (knock (knock s)))) := by
  unfold k0_pay33; rw [pay32_eq]; rfl

theorem pay34_eq : k0_pay34 cols s (firstOf (hits s)) k0_pay25 = asNum (firstOf (hits (knock (knock (knock s))))) := by
  unfold k0_pay34; rw [pay33_eq]; rfl

theorem pay35_eq : k0_pay35 cols s (firstOf (hits s)) k0_pay25 = hits (knock (knock (knock (knock s)))) := by
  unfold k0_pay35; rw [pay33_eq, pay32_eq]; rfl

end Rounds

theorem ld_block (x : Vec Ideal S1x1x1x1024x25 .f32) : View.ld x r0_0 = x :=
  View.ld_unit_zero (by funext a; fin_cases a <;> rfl) _ x

theorem ld_norms (x : Vec Ideal S1x1x1x1x25 .f32) : View.ld x r0_1 = x :=
  View.ld_unit_zero (by funext a; fin_cases a <;> rfl) _ x

theorem ld_weights (x : Vec Ideal S384x64 .f32) : View.ld x r0_2 = x :=
  View.ld_unit_zero (by funext a; fin_cases a <;> rfl) _ x

theorem out0_19_eq : out0_19 x0 x1 x2 x3 x4 x5 x6 x7 x8 x9 x10 x11 x12 x13 x14 x15 x16 x17 x18
    = k0_pay1 (table x0 x1 x2 x3 x4 x5 x6 x7 x8 x9 x10 x11 x12 x13 x14 x15 x16 x17 x18) x18 cols
      (asNum (firstOf (hits (state (scores x0 x1 x2 x3 x4 x5 x6 x7 x8 x9 x10 x11 x12 x13 x14 x15 x16 x17 x18) 0))))
      (asNum (firstOf (hits (state (scores x0 x1 x2 x3 x4 x5 x6 x7 x8 x9 x10 x11 x12 x13 x14 x15 x16 x17 x18) 1))))
      (asNum (firstOf (hits (state (scores x0 x1 x2 x3 x4 x5 x6 x7 x8 x9 x10 x11 x12 x13 x14 x15 x16 x17 x18) 2))))
      (asNum (firstOf (hits (state (scores x0 x1 x2 x3 x4 x5 x6 x7 x8 x9 x10 x11 x12 x13 x14 x15 x16 x17 x18) 3))))
      (asNum (firstOf (hits (state (scores x0 x1 x2 x3 x4 x5 x6 x7 x8 x9 x10 x11 x12 x13 x14 x15 x16 x17 x18) 4))))
      (hits (state (scores x0 x1 x2 x3 x4 x5 x6 x7 x8 x9 x10 x11 x12 x13 x14 x15 x16 x17 x18) 5)) := by
  unfold out0_19
  rw [View.canon_unit_zero (by funext a; fin_cases a <;> rfl)]
  unfold k0_pay44 k0_pay45 k0_pay46 k0_pay47 k0_pay18
  rw [ld_weights, show iota .tc S25x225 32 [1] iota_S25x225_d1_w32 = cols from rfl]
  have e : shapeCast S384x64 x18 shapeCasts_S384x64_S384x64 = x18 := shapeCast_self x18 _
  rw [pay21_eq, pay22_eq, pay23_eq, pay24_eq, pay28_eq , pay31_eq, pay34_eq, pay35_eq]
  dsimp only
  rw [e]
  rfl

/-- Of nine rows of 25 laid one after another, the one a place belongs to. -/
theorem ninth (y0 y1 y2 y3 y4 y5 y6 y7 y8 : Fin 25 → EReal) (T : Fin 9 → Fin 25 → EReal)
    (e0 : ∀ a, y0 a = T 0 a) (e1 : ∀ a, y1 a = T 1 a) (e2 : ∀ a, y2 a = T 2 a) (e3 : ∀ a, y3 a = T 3 a) (e4 : ∀ a, y4 a = T 4 a)
    (e5 : ∀ a, y5 a = T 5 a) (e6 : ∀ a, y6 a = T 6 a) (e7 : ∀ a, y7 a = T 7 a) (e8 : ∀ a, y8 a = T 8 a) (j : Fin 225) :
    (if h0 : j.val < 25 then y0 ⟨j.val, h0⟩ else
      if h1 : j.val - 25 < 25 then y1 ⟨j.val - 25, h1⟩ else
      if h2 : j.val - 25 - 25 < 25 then y2 ⟨j.val - 25 - 25, h2⟩ else
      if h3 : j.val - 25 - 25 - 25 < 25 then y3 ⟨j.val - 25 - 25 - 25, h3⟩ else
      if h4 : j.val - 25 - 25 - 25 - 25 < 25 then y4 ⟨j.val - 25 - 25 - 25 - 25, h4⟩ else
      if h5 : j.val - 25 - 25 - 25 - 25 - 25 < 25 then y5 ⟨j.val - 25 - 25 - 25 - 25 - 25, h5⟩ else
      if h6 : j.val - 25 - 25 - 25 - 25 - 25 - 25 < 25 then y6 ⟨j.val - 25 - 25 - 25 - 25 - 25 - 25, h6⟩ else
      if h7 : j.val - 25 - 25 - 25 - 25 - 25 - 25 - 25 < 25 then y7 ⟨j.val - 25 - 25 - 25 - 25 - 25 - 25 - 25, h7⟩ else
      y8 ⟨j.val - 25 - 25 - 25 - 25 - 25 - 25 - 25 - 25, by omega⟩)
      = T ⟨j.val / 25, by omega⟩ ⟨j.val % 25, by omega⟩ := by
  have key : ∀ (i : Fin 9) (a : Fin 25), i.val * 25 + a.val = j.val →
      T i a = T ⟨j.val / 25, by omega⟩ ⟨j.val % 25, by omega⟩ := fun i a h => by
    have h1 : i = ⟨j.val / 25, by omega⟩ := Fin.ext (by show i.val = j.val / 25; omega)
    have h2 : a = ⟨j.val % 25, by omega⟩ := Fin.ext (by show a.val = j.val % 25; omega)
    rw [← h1, ← h2]
  split_ifs
  · rw [e0]; exact key 0 _ (by show 0 * 25 + (j.val) = j.val; omega)
  · rw [e1]; exact key 1 _ (by show 1 * 25 + (j.val - 25) = j.val; omega)
  · rw [e2]; exact key 2 _ (by show 2 * 25 + (j.val - 25 - 25) = j.val; omega)
  · rw [e3]; exact key 3 _ (by show 3 * 25 + (j.val - 25 - 25 - 25) = j.val; omega)
  · rw [e4]; exact key 4 _ (by show 4 * 25 + (j.val - 25 - 25 - 25 - 25) = j.val; omega)
  · rw [e5]; exact key 5 _ (by show 5 * 25 + (j.val - 25 - 25 - 25 - 25 - 25) = j.val; omega)
  · rw [e6]; exact key 6 _ (by show 6 * 25 + (j.val - 25 - 25 - 25 - 25 - 25 - 25) = j.val; omega)
  · rw [e7]; exact key 7 _ (by show 7 * 25 + (j.val - 25 - 25 - 25 - 25 - 25 - 25 - 25) = j.val; omega)
  · rw [e8]; exact key 8 _ (by show 8 * 25 + (j.val - 25 - 25 - 25 - 25 - 25 - 25 - 25 - 25) = j.val; omega)

set_option maxHeartbeats 4000000 in
/-- The table at an index, when its nine blocks are known. -/
theorem table_apply (f : Fin 9 → Fin 1024 → Fin 25 → EReal)
    (e0 : ∀ k a, x0 (ix5 (0 : Fin 1) (0 : Fin 1) (0 : Fin 1) k a) = f 0 k a) (e1 : ∀ k a, x1 (ix5 (0 : Fin 1) (0 : Fin 1) (0 : Fin 1) k a) = f 1 k a)
    (e2 : ∀ k a, x2 (ix5 (0 : Fin 1) (0 : Fin 1) (0 : Fin 1) k a) = f 2 k a) (e3 : ∀ k a, x3 (ix5 (0 : Fin 1) (0 : Fin 1) (0 : Fin 1) k a) = f 3 k a)
    (e4 : ∀ k a, x4 (ix5 (0 : Fin 1) (0 : Fin 1) (0 : Fin 1) k a) = f 4 k a) (e5 : ∀ k a, x5 (ix5 (0 : Fin 1) (0 : Fin 1) (0 : Fin 1) k a) = f 5 k a)
    (e6 : ∀ k a, x6 (ix5 (0 : Fin 1) (0 : Fin 1) (0 : Fin 1) k a) = f 6 k a) (e7 : ∀ k a, x7 (ix5 (0 : Fin 1) (0 : Fin 1) (0 : Fin 1) k a) = f 7 k a)
    (e8 : ∀ k a, x8 (ix5 (0 : Fin 1) (0 : Fin 1) (0 : Fin 1) k a) = f 8 k a) (k : Fin 1024) (j : Fin 225) :
    table x0 x1 x2 x3 x4 x5 x6 x7 x8 x9 x10 x11 x12 x13 x14 x15 x16 x17 x18 (ix2 k j) = f ⟨j.val / 25, by omega⟩ k ⟨j.val % 25, by omega⟩ := by
  unfold table k0_pay36
  simp only [ld_block]
  pointwise [k0_pay10, k0_pay2, k0_pay3, k0_pay4, k0_pay5, k0_pay6, k0_pay7, k0_pay8, k0_pay9]
  exact ninth _ _ _ _ _ _ _ _ _ (fun i a => f i k a) (e0 k) (e1 k) (e2 k) (e3 k) (e4 k) (e5 k) (e6 k) (e7 k) (e8 k) j

set_option maxHeartbeats 4000000 in
/-- The scores at an index, from the table and the nine rows of squared norms. -/
theorem scores_apply (c : Fin 9 → Fin 25 → EReal)
    (d0 : ∀ a, x9 (ix5 (0 : Fin 1) (0 : Fin 1) (0 : Fin 1) (0 : Fin 1) a) = c 0 a) (d1 : ∀ a, x10 (ix5 (0 : Fin 1) (0 : Fin 1) (0 : Fin 1) (0 : Fin 1) a) = c 1 a)
    (d2 : ∀ a, x11 (ix5 (0 : Fin 1) (0 : Fin 1) (0 : Fin 1) (0 : Fin 1) a) = c 2 a) (d3 : ∀ a, x12 (ix5 (0 : Fin 1) (0 : Fin 1) (0 : Fin 1) (0 : Fin 1) a) = c 3 a)
    (d4 : ∀ a, x13 (ix5 (0 : Fin 1) (0 : Fin 1) (0 : Fin 1) (0 : Fin 1) a) = c 4 a) (d5 : ∀ a, x14 (ix5 (0 : Fin 1) (0 : Fin 1) (0 : Fin 1) (0 : Fin 1) a) = c 5 a)
    (d6 : ∀ a, x15 (ix5 (0 : Fin 1) (0 : Fin 1) (0 : Fin 1) (0 : Fin 1) a) = c 6 a) (d7 : ∀ a, x16 (ix5 (0 : Fin 1) (0 : Fin 1) (0 : Fin 1) (0 : Fin 1) a) = c 7 a)
    (d8 : ∀ a, x17 (ix5 (0 : Fin 1) (0 : Fin 1) (0 : Fin 1) (0 : Fin 1) a) = c 8 a) (a : Fin 25) (j : Fin 225) :
    scores x0 x1 x2 x3 x4 x5 x6 x7 x8 x9 x10 x11 x12 x13 x14 x15 x16 x17 x18 (ix2 a j)
      = Ideal.ofBits .f32 0xC0000000#32 * (∑ k : Fin 1024, table x0 x1 x2 x3 x4 x5 x6 x7 x8 x9 x10 x11 x12 x13 x14 x15 x16 x17 x18 (ix2 k (⟨a.val, by omega⟩ : Fin 225))
          * table x0 x1 x2 x3 x4 x5 x6 x7 x8 x9 x10 x11 x12 x13 x14 x15 x16 x17 x18 (ix2 k j))
        + c ⟨j.val / 25, by omega⟩ ⟨j.val % 25, by omega⟩ := by
  unfold scores
  generalize table x0 x1 x2 x3 x4 x5 x6 x7 x8 x9 x10 x11 x12 x13 x14 x15 x16 x17 x18 = C
  unfold k0_pay37 k0_pay38 k0_pay39 k0_pay40 k0_pay41 k0_pay42 k0_pay43
  simp only [ld_norms]
  pointwise [k0_pay19, k0_pay11, k0_pay12, k0_pay13, k0_pay14, k0_pay15, k0_pay16, k0_pay17]
  rw [← ninth _ _ _ _ _ _ _ _ _ c d0 d1 d2 d3 d4 d5 d6 d7 d8 j]

/-- What the body stores at an index, when its blocks hold the nine shifted patches, their squared norms and the weights. -/
theorem out0_19_apply (X : (⟨4, ![50, 64, 48, 48]⟩ : Shape).Idx → EReal) (W : (⟨4, ![64, 384, 1, 1]⟩ : Shape).Idx → EReal)
    (n : Fin 2) (ph pw : Fin 12)
    (e : ∀ i : Fin 9, ∀ k a, (![x0, x1, x2, x3, x4, x5, x6, x7, x8] i : Vec Ideal S1x1x1x1024x25 .f32)
      (ix5 (0 : Fin 1) (0 : Fin 1) (0 : Fin 1) k a) = feat X n ph pw i k a)
    (d : ∀ i : Fin 9, ∀ a, (![x9, x10, x11, x12, x13, x14, x15, x16, x17] i : Vec Ideal S1x1x1x1x25 .f32)
      (ix5 (0 : Fin 1) (0 : Fin 1) (0 : Fin 1) (0 : Fin 1) a) = ∑ k : Fin 1024, feat X n ph pw i k a * feat X n ph pw i k a)
    (hw : ∀ q o, x18 (ix2 q o) = W (ix4 o q (0 : Fin 1) (0 : Fin 1))) (p : Fin 400) (o : Fin 64) :
    out0_19 x0 x1 x2 x3 x4 x5 x6 x7 x8 x9 x10 x11 x12 x13 x14 x15 x16 x17 x18 (ix5 (0 : Fin 1) (0 : Fin 1) (0 : Fin 1) p o)
      = spAt X W n ph pw ⟨p.val / 16, by omega⟩ o ⟨p.val % 16, by omega⟩ := by
  have ht : ∀ k j, table x0 x1 x2 x3 x4 x5 x6 x7 x8 x9 x10 x11 x12 x13 x14 x15 x16 x17 x18 (ix2 k j) = cand X n ph pw k j := fun k j =>
    table_apply x0 x1 x2 x3 x4 x5 x6 x7 x8 x9 x10 x11 x12 x13 x14 x15 x16 x17 x18 (feat X n ph pw) (e 0) (e 1) (e 2) (e 3) (e 4) (e 5) (e 6) (e 7) (e 8) k j
  have hs : ∀ a j, scores x0 x1 x2 x3 x4 x5 x6 x7 x8 x9 x10 x11 x12 x13 x14 x15 x16 x17 x18 (ix2 a j) = score X n ph pw a j := fun a j => by
    rw [scores_apply x0 x1 x2 x3 x4 x5 x6 x7 x8 x9 x10 x11 x12 x13 x14 x15 x16 x17 x18 (fun i a => ∑ k : Fin 1024, feat X n ph pw i k a * feat X n ph pw i k a)
      (d 0) (d 1) (d 2) (d 3) (d 4) (d 5) (d 6) (d 7) (d 8) a j]
    simp only [ht]
    rfl
  have hrow : ∀ a, (fun x => scores x0 x1 x2 x3 x4 x5 x6 x7 x8 x9 x10 x11 x12 x13 x14 x15 x16 x17 x18 (ix2 a x)) = score X n ph pw a := fun a => funext (hs a)
  have hp : ∀ r a j, asNum (firstOf (hits (state (scores x0 x1 x2 x3 x4 x5 x6 x7 x8 x9 x10 x11 x12 x13 x14 x15 x16 x17 x18) r))) (ix2 a j)
      = if j = pick (score X n ph pw a) r then 1 else 0 := fun r a j => by
    rw [oneHot_apply, hrow]
  rw [out0_19_eq, pay1_apply (fun r a => pick (score X n ph pw a) r) _ _ _ _ _ _ _ _ (hp 0) (hp 1) (hp 2) (hp 3) (hp 4) (hp 5)]
  simp only [ht, hw]
  rfl

end Cert.KernelIdeal.Hand

end
-- ==== Proof.MatchArray.lean ====
/-
  The array the first kernel leaves: at every patch, the gathered candidates mixed by the 1 × 1 convolution.
-/
module

public import proofs.«01_k».proof.Proof.MatchReads
public import proofs.«01_k».proof.Proof.MatchEntry
public import proofs.«01_k».proof.Proof.MatchBody

@[expose] public section

set_option maxRecDepth 16384

noncomputable section

namespace Cert.KernelIdeal.Hand

open Idealize.ShloMosaic Idealize.ShloMosaic.TcCoe Idealize.ShloMosaic.Pointwise Cert.KernelIdeal Cert.KernelIdeal.Gen Cert.Math
open Cert.KernelIdeal.Facts

/-- The patches' results, as one array over (video, patch row, patch column, frame and pixel, channel). -/
def matched (x : Vec Ideal S50x64x48x48 .f32) (w : Vec Ideal S64x384x1x1 .f32) : Vec Ideal S2x12x12x400x64 .f32 := fun j =>
  spAt x w (j 0) (j 1) (j 2) ⟨(j 3).val / 16, by have : (j 3).val < 400 := (j 3).isLt; omega⟩ (j 4) ⟨(j 3).val % 16, Nat.mod_lt _ (by decide)⟩

/-- Which block of the result a grid point writes. -/
theorem index_out (t : Fin cfg0.N) : cc0_transform_19 (grid0.coords t) = ![t.val / 144, t.val / 12 % 12, t.val % 12, 0, 0] := by
  obtain ⟨h0, h1, h2⟩ := coords_val t
  have ht := points t
  show ![(BitVec.ofNat 32 (grid0.coords t 0).val).toNat, (BitVec.ofNat 32 (grid0.coords t 1).val).toNat,
    (BitVec.ofNat 32 (grid0.coords t 2).val).toNat, (0#32 : BitVec 32).toNat, (0#32 : BitVec 32).toNat] = _
  have s : ∀ n : ℕ, n < 288 → (BitVec.ofNat 32 n).toNat = n := fun n hn => by rw [BitVec.toNat_ofNat, Nat.mod_eq_of_lt (by omega)]
  rw [h0, h1, h2, s _ (by omega), s _ (by omega), s _ (by omega)]
  rfl

/-- Where an element of a grid point's block sits in the result. -/
theorem emb_out (t : Fin cfg0.N) (p : Fin 400) (o : Fin 64) :
    ((win0_19.rect t).emb (ix5 (0 : Fin 1) (0 : Fin 1) (0 : Fin 1) p o) : S2x12x12x400x64.Idx) = ix5 (vid t) (prow t) (pcol t) p o := by
  have hi : win0_19.index t = ![t.val / 144, t.val / 12 % 12, t.val % 12, 0, 0] := index_out t
  funext b
  apply Fin.ext
  rw [win0_19.rect_emb_val t _ b, hi]
  match b with
  | ⟨0, _⟩ => show t.val / 144 * 1 + 0 = t.val / 144; omega
  | ⟨1, _⟩ => show t.val / 12 % 12 * 1 + 0 = t.val / 12 % 12; omega
  | ⟨2, _⟩ => show t.val % 12 * 1 + 0 = t.val % 12; omega
  | ⟨3, _⟩ => show 0 * 400 + p.val = p.val; omega
  | ⟨4, _⟩ => show 0 * 64 + o.val = o.val; omega

section Contents

variable (c : Dev nD) (V : (c : Dev nD) → (b : Ref sig .tc) → Buf (Elt Ideal) ((c : Thread nD τ).loc b))
variable (x : Vec Ideal S50x64x48x48 .f32) (w : Vec Ideal S64x384x1x1 .f32)

/-- Every block of the result lies in some grid point's block. -/
theorem cover_out (i : S2x12x12x400x64.Idx) :
    ∃ t : Fin cfg0.N, (cfg0.win 19).flush t = true ∧ i ∈ ((cfg0.win 19).blk t).view.set := by
  have h0 : (i 0).val < 2 := (i 0).isLt
  have h1 : (i 1).val < 12 := (i 1).isLt
  have h2 : (i 2).val < 12 := (i 2).isLt
  have hN : cfg0.N = 288 := by decide +kernel
  let t : Fin cfg0.N := ⟨((i 0).val * 12 + (i 1).val) * 12 + (i 2).val, by omega⟩
  have ht : t.val = ((i 0).val * 12 + (i 1).val) * 12 + (i 2).val := rfl
  refine ⟨t, flush0_19 t, ?_⟩
  have e : ((win0_19.rect t).emb (ix5 (0 : Fin 1) (0 : Fin 1) (0 : Fin 1) (i 3) (i 4)) : S2x12x12x400x64.Idx) = i := by
    refine (emb_out t (i 3) (i 4)).trans ?_
    funext b
    match b with
    | ⟨0, _⟩ => apply Fin.ext; show t.val / 144 = (i 0).val; omega
    | ⟨1, _⟩ => apply Fin.ext; show t.val / 12 % 12 = (i 1).val; omega
    | ⟨2, _⟩ => apply Fin.ext; show t.val % 12 = (i 2).val; omega
    | ⟨3, _⟩ => rfl
    | ⟨4, _⟩ => rfl
  have h := ((cfg0.win 19).blk t).view.emb_mem_set (ix5 (0 : Fin 1) (0 : Fin 1) (0 : Fin 1) (i 3) (i 4))
  have e' : ((cfg0.win 19).blk t).view.emb (ix5 (0 : Fin 1) (0 : Fin 1) (0 : Fin 1) (i 3) (i 4)) = i := e
  rwa [e'] at h

/-- What a grid point writes back is its block of `matched`. -/
theorem flushed_out
    (e : ∀ (t : Fin cfg0.N) (i : Fin 9) (k : Fin 1024) (a : Fin 25),
      (![iblk0 V c 0 t, iblk0 V c 1 t, iblk0 V c 2 t, iblk0 V c 3 t, iblk0 V c 4 t, iblk0 V c 5 t, iblk0 V c 6 t, iblk0 V c 7 t,
        iblk0 V c 8 t] i : Vec Ideal S1x1x1x1024x25 .f32)
        (ix5 (0 : Fin 1) (0 : Fin 1) (0 : Fin 1) k a) = feat x (vid t) (prow t) (pcol t) i k a)
    (d : ∀ (t : Fin cfg0.N) (i : Fin 9) (a : Fin 25),
      (![iblk0 V c 9 t, iblk0 V c 10 t, iblk0 V c 11 t, iblk0 V c 12 t, iblk0 V c 13 t, iblk0 V c 14 t, iblk0 V c 15 t,
        iblk0 V c 16 t, iblk0 V c 17 t] i : Vec Ideal S1x1x1x1x25 .f32)
        (ix5 (0 : Fin 1) (0 : Fin 1) (0 : Fin 1) (0 : Fin 1) a)
        = ∑ k : Fin 1024, feat x (vid t) (prow t) (pcol t) i k a * feat x (vid t) (prow t) (pcol t) i k a)
    (hw : ∀ (t : Fin cfg0.N) (q : Fin 384) (o : Fin 64),
      (iblk0 V c 18 t : Vec Ideal S384x64 .f32) (ix2 q o) = w (ix4 o q (0 : Fin 1) (0 : Fin 1)))
    (t : Fin cfg0.N) (_ : (cfg0.win 19).flush t = true) :
    (dat0 V c).flushed 19 t = ((cfg0.win 19).blk t).view.read (Elt Ideal) (matched x w) := by
  show (cfg0.win 19).cut (grid0.coords t) ((dat0 V c).after 19 t) = _
  rw [after0_19]
  have key : ∀ y : S1x1x1x400x64.Idx,
      out0_19 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (iblk0 V c 10 t) (iblk0 V c 11 t) (iblk0 V c 12 t) (iblk0 V c 13 t)
        (iblk0 V c 14 t) (iblk0 V c 15 t) (iblk0 V c 16 t) (iblk0 V c 17 t) (iblk0 V c 18 t) y
        = matched x w ((win0_19.rect t).emb y) := by
    intro y
    obtain ⟨p, o, rfl⟩ : ∃ (p : Fin 400) (o : Fin 64), y = ix5 (0 : Fin 1) (0 : Fin 1) (0 : Fin 1) p o :=
      ⟨y 3, y 4, funext fun b => by
        match b with
        | ⟨0, _⟩ => exact Subsingleton.elim (α := Fin 1) _ _
        | ⟨1, _⟩ => exact Subsingleton.elim (α := Fin 1) _ _
        | ⟨2, _⟩ => exact Subsingleton.elim (α := Fin 1) _ _
        | ⟨3, _⟩ => rfl
        | ⟨4, _⟩ => rfl⟩
    rw [emb_out]
    exact out0_19_apply _ _ _ _ _ _ _ _ _ _ _ _ _ _ _ _ _ _ _ x w (vid t) (prow t) (pcol t) (e t) (d t) (hw t) p o
  exact funext key

end Contents

variable (m : (ℓ : Loc nD τ sig) → Buf (Elt Ideal) ℓ) (ρ : Dev nD → PrngReg) (c : Dev nD)

/-- The first kernel leaves the patches' results. -/
theorem W8_v37 : W8 m ρ c (Proc.devRef .tc main_v37) = matched (X m c) (Wa m c) :=
  (W8_arr m ρ c 19).trans <| (dat0 (V7 m ρ) c).arrAt_eq_of_cover 19 (matched (X m c) (Wa m c))
    (flushed_out c (V7 m ρ) (X m c) (Wa m c)
      (block_feat c (V7 m ρ) (X m c) (W7_v2 m ρ c) (W7_v11 m ρ c) (W7_v20 m ρ c) (W7_v29 m ρ c))
      (block_norm c (V7 m ρ) (X m c) (W7_v7 m ρ c) (W7_v16 m ρ c) (W7_v25 m ρ c) (W7_v34 m ρ c))
      (block_weights c (V7 m ρ) (Wa m c) (W7_v36 m ρ c)))
    cover_out

end Cert.KernelIdeal.Hand

end
-- ==== Proof.HostMid.lean ====
/-
  What the program computes between its two kernels: the patches' results put back into frames, joined behind the
  feature map's channels, with a border of zeros.
-/
module

public import proofs.«01_k».proof.Proof.MatchArray

@[expose] public section

set_option maxRecDepth 16384

noncomputable section

namespace Cert.Math

open Idealize.ShloMosaic Idealize.ShloMosaic.Pointwise

/-- The patches' results as frames. -/
def spread (X : (⟨4, ![50, 64, 48, 48]⟩ : Shape).Idx → EReal) (W : (⟨4, ![64, 384, 1, 1]⟩ : Shape).Idx → EReal) :
    (⟨4, ![50, 64, 48, 48]⟩ : Shape).Idx → EReal := fun j =>
  spAt X W ⟨(j 0).val / 25, by have : (j 0).val < 50 := (j 0).isLt; omega⟩
    ⟨(j 2).val / 4, by have : (j 2).val < 48 := (j 2).isLt; omega⟩ ⟨(j 3).val / 4, by have : (j 3).val < 48 := (j 3).isLt; omega⟩
    ⟨(j 0).val % 25, Nat.mod_lt _ (by decide)⟩ (j 1) ⟨(j 2).val % 4 * 4 + (j 3).val % 4, by omega⟩

end Cert.Math

namespace Cert.KernelIdeal.Hand

open Idealize.ShloMosaic Idealize.ShloMosaic.TcCoe Idealize.ShloMosaic.Pointwise Cert.KernelIdeal Cert.KernelIdeal.Gen Cert.Math
open Cert.KernelIdeal.Facts

/-- The patches' results put back into frames, as the program does it. -/
def frames (s : Vec Ideal S2x12x12x400x64 .f32) : Vec Ideal S50x64x48x48 .f32 :=
  shapeCast S50x64x48x48 (transpose S2x25x64x12x4x12x4 [0, 3, 6, 1, 4, 2, 5]
    (shapeCast S2x12x12x25x4x4x64 s shapeCasts_S2x12x12x400x64_S2x12x12x25x4x4x64)
    transposes_S2x12x12x25x4x4x64_S2x25x64x12x4x12x4_0_3_6_1_4_2_5) shapeCasts_S2x25x64x12x4x12x4_S50x64x48x48

/-- Two stacks of channels joined. -/
def joined (x y : Vec Ideal S50x64x48x48 .f32) : Vec Ideal S50x128x48x48 .f32 :=
  concatenate S50x128x48x48 1 [⟨S50x64x48x48, x⟩, ⟨S50x64x48x48, y⟩] concatenates_S50x64x48x48_S50x64x48x48_S50x128x48x48_d1

/-- The joined channels inside a border of zeros. -/
def bordered (x : Vec Ideal S50x128x48x48 .f32) : Vec Ideal S50x128x50x50 .f32 :=
  pad S50x128x50x50 ![0, 0, 1, 1] ![0, 0, 1, 1] ![0, 0, 0, 0] x (sitofp (F := Ideal) .f32 (constantI S_ 32 0#32))
    pads_S50x128x48x48_S50x128x50x50_000_000_110_110 h_S_

section Segments

variable (V : Valuation τ sig (Elt Ideal))

theorem seg1_v41 : StableHlo.after hostOps1 V (Proc.devRef .tc main_v41)
    = joined (V (Proc.devRef .tc main_arg0)) (frames (V (Proc.devRef .tc main_v37))) := by
  simp only [hostOps1]; after_results_simp; rfl

theorem seg1_c : StableHlo.after hostOps1 V (Proc.devRef .tc main_c) = constantI S_ 32 0#32 := by
  simp only [hostOps1]; after_results_simp; try rfl

theorem seg1_v42 (h : V (Proc.devRef .tc main_c) = constantI S_ 32 0#32) :
    StableHlo.after hostOps1_1 V (Proc.devRef .tc main_v42) = bordered (V (Proc.devRef .tc main_v41)) := by
  simp only [hostOps1_1, StableHlo.TRef.binary, StableHlo.TRef.unary, StableHlo.TRef.toBuf, StableHlo.TRef.ofBuf, cast_eq]
  after_results_simp
  rw [h]
  rfl

end Segments

/-- The frames at an index. -/
theorem frames_apply (s : Vec Ideal S2x12x12x400x64 .f32) (b : Fin 50) (o : Fin 64) (y z : Fin 48) :
    frames s (ix4 b o y z) = s (ix5 ⟨b.val / 25, by omega⟩ ⟨y.val / 4, by omega⟩ ⟨z.val / 4, by omega⟩
      ⟨b.val % 25 * 16 + y.val % 4 * 4 + z.val % 4, by omega⟩ o) := by
  pointwise [frames]

/-- The frames the first kernel's result makes. -/
theorem frames_matched (x : Vec Ideal S50x64x48x48 .f32) (w : Vec Ideal S64x384x1x1 .f32) : frames (matched x w) = spread x w := by
  funext j
  obtain ⟨b, o, y, z, rfl⟩ : ∃ (b : Fin 50) (o : Fin 64) (y z : Fin 48), j = ix4 b o y z :=
    ⟨j 0, j 1, j 2, j 3, funext fun a => by match a with | ⟨0, _⟩ => rfl | ⟨1, _⟩ => rfl | ⟨2, _⟩ => rfl | ⟨3, _⟩ => rfl⟩
  rw [frames_apply]
  show spAt x w _ _ _ ⟨(b.val % 25 * 16 + y.val % 4 * 4 + z.val % 4) / 16, _⟩ o
      ⟨(b.val % 25 * 16 + y.val % 4 * 4 + z.val % 4) % 16, _⟩
    = spAt x w _ _ _ ⟨b.val % 25, _⟩ o ⟨y.val % 4 * 4 + z.val % 4, _⟩
  congr 1
  · exact Fin.ext (by show (b.val % 25 * 16 + y.val % 4 * 4 + z.val % 4) / 16 = b.val % 25; omega)
  · exact Fin.ext (by show (b.val % 25 * 16 + y.val % 4 * 4 + z.val % 4) % 16 = y.val % 4 * 4 + z.val % 4; omega)

variable (m : (ℓ : Loc nD τ sig) → Buf (Elt Ideal) ℓ) (ρ : Dev nD → PrngReg) (c : Dev nD)

/-- What the second kernel reads. -/
theorem W10_v42 : V10 m ρ c main_v42 = bordered (joined (X m c) (spread (X m c) (Wa m c))) :=
  (seg1_v42 (W9 m ρ c) (seg1_c (W8 m ρ c))).trans <| congrArg bordered <| (seg1_v41 (W8 m ρ c)).trans <| by
    rw [W8_args m ρ c main_arg0 (by decide), W8_v37, frames_matched]

end Cert.KernelIdeal.Hand

end
-- ==== Proof.ConvBody.lean ====
/-
  The second kernel's body at an index: the 3 × 3 convolution of its padded block, `Cert.Math.conv`.
-/
module

public import proofs.«01_k».proof.Proof.Spec
public import proofs.«01_k».proof.Proof.Gen.KernelIdeal.Frame

@[expose] public section

set_option maxRecDepth 16384

noncomputable section

namespace Cert.KernelIdeal.Hand

open Idealize.ShloMosaic Idealize.ShloMosaic.Pointwise Cert.KernelIdeal Cert.KernelIdeal.Gen Cert.Math
open Cert.KernelIdeal.Facts

set_option maxHeartbeats 4000000 in
/-- What the body stores, at an index. -/
theorem out1_2_apply (x0 : Vec Ideal S1x128x50x50 .f32) (x1 : Vec Ideal S64x128x3x3 .f32) (o : Fin 64) (h w : Fin 48) :
    out1_2 x0 x1 (ix4 (0 : Fin 1) o h w) = conv x1 (fun ci y x => x0 (ix4 (0 : Fin 1) ci y x)) o h w := by
  unfold out1_2
  rw [View.canon_unit_zero (by funext a; fin_cases a <;> rfl)]
  pointwise [k1_pay1, k1_pay2, k1_pay3, k1_pay4, k1_pay5, k1_pay6]
  unfold conv leaky tap
  simp only [Fin.val_zero, Fin.val_one, Fin.val_two, zero_add, Nat.zero_add]
end Cert.KernelIdeal.Hand

end
-- ==== Proof.ConvArray.lean ====
/-
  The array the second kernel leaves: the 3 × 3 convolution of every frame.
-/
module

public import proofs.«01_k».proof.Proof.HostMid
public import proofs.«01_k».proof.Proof.ConvBody

@[expose] public section

set_option maxRecDepth 16384

noncomputable section

namespace Cert.Math

open Idealize.ShloMosaic Idealize.ShloMosaic.Pointwise

/-- The 3 × 3 convolution of every frame. -/
def convAll (W : (⟨4, ![64, 128, 3, 3]⟩ : Shape).Idx → EReal) (Z : (⟨4, ![50, 128, 50, 50]⟩ : Shape).Idx → EReal) :
    (⟨4, ![50, 64, 48, 48]⟩ : Shape).Idx → EReal := fun j =>
  conv W (fun ci y x => Z (ix4 (j 0) ci y x)) (j 1) (j 2) (j 3)

end Cert.Math

namespace Cert.KernelIdeal.Hand

open Idealize.ShloMosaic Idealize.ShloMosaic.TcCoe Idealize.ShloMosaic.Pointwise Cert.KernelIdeal Cert.KernelIdeal.Gen Cert.Math
open Cert.KernelIdeal.Facts

/-- There are fifty frames. -/
theorem frames_lt (t : Fin cfg1.N) : t.val < 50 := lt_of_lt_of_eq t.isLt (by decide +kernel)

theorem coords_frame : ∀ t : Fin cfg1.N, (grid1.coords t 0).val = t.val := by decide +kernel

/-- The frame of a grid point. -/
def frm (t : Fin cfg1.N) : Fin 50 := ⟨t.val, frames_lt t⟩

theorem word_frame (t : Fin cfg1.N) : (BitVec.ofNat 32 (grid1.coords t 0).val).toNat = t.val := by
  have := frames_lt t
  rw [coords_frame, BitVec.toNat_ofNat, Nat.mod_eq_of_lt (by omega)]

/-- Which block each window of frames uses. -/
theorem index_frame (t : Fin cfg1.N) : win1_0.index t = ![t.val, 0, 0, 0] := by
  show ![(BitVec.ofNat 32 (grid1.coords t 0).val).toNat, (0#32 : BitVec 32).toNat, (0#32 : BitVec 32).toNat, (0#32 : BitVec 32).toNat] = _
  rw [word_frame]; rfl

theorem index_result (t : Fin cfg1.N) : win1_2.index t = ![t.val, 0, 0, 0] := by
  show ![(BitVec.ofNat 32 (grid1.coords t 0).val).toNat, (0#32 : BitVec 32).toNat, (0#32 : BitVec 32).toNat, (0#32 : BitVec 32).toNat] = _
  rw [word_frame]; rfl

/-- Where an element of a grid point's block sits in the result. -/
theorem emb_result (t : Fin cfg1.N) (o : Fin 64) (h w : Fin 48) :
    ((win1_2.rect t).emb (ix4 (0 : Fin 1) o h w) : S50x64x48x48.Idx) = ix4 (frm t) o h w := by
  funext b
  apply Fin.ext
  rw [win1_2.rect_emb_val t _ b, index_result]
  match b with
  | ⟨0, _⟩ => show t.val * 1 + 0 = t.val; omega
  | ⟨1, _⟩ => show 0 * 64 + o.val = o.val; omega
  | ⟨2, _⟩ => show 0 * 48 + h.val = h.val; omega
  | ⟨3, _⟩ => show 0 * 48 + w.val = w.val; omega

section Contents

variable (c : Dev nD) (V : (c : Dev nD) → (b : Ref sig .tc) → Buf (Elt Ideal) ((c : Thread nD τ).loc b))

/-- The block of the bordered frames. -/
theorem iblk_frame (t : Fin cfg1.N) (ci : Fin 128) (y x : Fin 50) :
    (iblk1 V c 0 t : Vec Ideal S1x128x50x50 .f32) (ix4 (0 : Fin 1) ci y x)
      = (V c main_v42 : Vec Ideal S50x128x50x50 .f32) (ix4 (frm t) ci y x) := by
  refine (show _ = V c main_v42 ((win1_0.rect t).emb (ix4 (0 : Fin 1) ci y x)) from rfl).trans (congrArg (V c main_v42) ?_)
  funext b
  apply Fin.ext
  rw [win1_0.rect_emb_val t _ b, index_frame]
  match b with
  | ⟨0, _⟩ => show t.val * 1 + 0 = t.val; omega
  | ⟨1, _⟩ => show 0 * 128 + ci.val = ci.val; omega
  | ⟨2, _⟩ => show 0 * 50 + y.val = y.val; omega
  | ⟨3, _⟩ => show 0 * 50 + x.val = x.val; omega

/-- The block of weights is the whole array. -/
theorem iblk_taps (t : Fin cfg1.N) : (iblk1 V c 1 t : Vec Ideal S64x128x3x3 .f32) = V c main_arg2 := by
  funext i
  refine (show _ = V c main_arg2 ((win1_1.rect t).emb i) from rfl).trans (congrArg (V c main_arg2) ?_)
  funext b
  apply Fin.ext
  rw [win1_1.rect_emb_val t _ b]
  match b with
  | ⟨0, _⟩ => show 0 * 64 + (i 0).val = (i 0).val; omega
  | ⟨1, _⟩ => show 0 * 128 + (i 1).val = (i 1).val; omega
  | ⟨2, _⟩ => show 0 * 3 + (i 2).val = (i 2).val; omega
  | ⟨3, _⟩ => show 0 * 3 + (i 3).val = (i 3).val; omega

/-- Every element of the result lies in some grid point's block. -/
theorem cover_result (i : S50x64x48x48.Idx) :
    ∃ t : Fin cfg1.N, (cfg1.win 2).flush t = true ∧ i ∈ ((cfg1.win 2).blk t).view.set := by
  have h0 : (i 0).val < 50 := (i 0).isLt
  have hN : cfg1.N = 50 := by decide +kernel
  let t : Fin cfg1.N := ⟨(i 0).val, by omega⟩
  refine ⟨t, flush1_2 t, ?_⟩
  have e : ((cfg1.win 2).blk t).view.emb (ix4 (0 : Fin 1) (i 1) (i 2) (i 3)) = i := by
    refine (emb_result t (i 1) (i 2) (i 3)).trans ?_
    funext b
    match b with
    | ⟨0, _⟩ => rfl
    | ⟨1, _⟩ => rfl
    | ⟨2, _⟩ => rfl
    | ⟨3, _⟩ => rfl
  have h := ((cfg1.win 2).blk t).view.emb_mem_set (ix4 (0 : Fin 1) (i 1) (i 2) (i 3))
  rwa [e] at h

/-- What a grid point writes back is its frame's convolution. -/
theorem flushed_result (t : Fin cfg1.N) (_ : (cfg1.win 2).flush t = true) :
    (dat1 V c).flushed 2 t = ((cfg1.win 2).blk t).view.read (Elt Ideal) (convAll (V c main_arg2) (V c main_v42)) := by
  show (cfg1.win 2).cut (grid1.coords t) ((dat1 V c).after 2 t) = _
  rw [after1_2]
  have key : ∀ y : S1x64x48x48.Idx,
      out1_2 (iblk1 V c 0 t) (iblk1 V c 1 t) y = convAll (V c main_arg2) (V c main_v42) ((win1_2.rect t).emb y) := by
    intro y
    obtain ⟨o, h, w, rfl⟩ : ∃ (o : Fin 64) (h w : Fin 48), y = ix4 (0 : Fin 1) o h w :=
      ⟨y 1, y 2, y 3, funext fun b => by
        match b with
        | ⟨0, _⟩ => exact Subsingleton.elim (α := Fin 1) _ _
        | ⟨1, _⟩ => rfl
        | ⟨2, _⟩ => rfl
        | ⟨3, _⟩ => rfl⟩
    rw [emb_result]
    refine (out1_2_apply _ _ o h w).trans ?_
    rw [iblk_taps]
    refine congrArg (fun Z => conv (V c main_arg2) Z o h w) ?_
    funext ci y x
    exact iblk_frame c V t ci y x
  exact funext key

end Contents

variable (m : (ℓ : Loc nD τ sig) → Buf (Elt Ideal) ℓ) (ρ : Dev nD → PrngReg) (c : Dev nD)

/-- What the kernel computes from its arguments. -/
def value (x : Vec Ideal S50x64x48x48 .f32) (w : Vec Ideal S64x384x1x1 .f32) (u : Vec Ideal S64x128x3x3 .f32) :
    Vec Ideal S50x64x48x48 .f32 := convAll u (bordered (joined x (spread x w)))

/-- The result array at the end. -/
theorem W11_v43 : W11 m ρ c (Proc.devRef .tc main_v43) = value (X m c) (Wa m c) (m ((c : Thread nD τ).loc main_arg2)) :=
  (W11_arr m ρ c 2).trans <| ((dat1 (V10 m ρ) c).arrAt_eq_of_cover 2 _ (flushed_result c (V10 m ρ)) cover_result).trans <| by
    rw [W10_v42, show V10 m ρ c main_arg2 = m ((c : Thread nD τ).loc main_arg2) from W10_args m ρ c main_arg2 (by decide)]
    rfl

end Cert.KernelIdeal.Hand

end
-- ==== Proof.KRun.lean ====
/-
  The kernel's run: its result array ends holding `value` of the arguments.
-/
module

public import proofs.«01_k».proof.Proof.ConvArray

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen Cert.KernelIdeal.Facts

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the result array at `value` of the arguments, and the arguments unchanged. -/
theorem run_value : θ_run defs (onTc (τ := τ) (main (F := Ideal))) ⟨m, fun _ => 0, ρ⟩ (fun r => ∀ c : Dev nD,
      r.2.mem ((c.tc : Thread nD τ).loc main_v43) = value (X m c) (Wa m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ c =>
      ⟨(h c _ (mem_uc main_v43 (by decide))).trans (W11_v43 m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c)⟩)

end Cert.KernelIdeal.Hand

end
-- ==== Proof.RefSort.lean ====
/-
  A stable sort in increasing order lists the places of a row in the order in which rounds of "take the first least entry
  and replace it by a large number" choose them.
-/
module

public import proofs.«01_k».proof.Proof.Amin
public import Idealize.ShloMosaic.Lib.SortFacts

@[expose] public section

noncomputable section

namespace Cert.Math

open Idealize.ShloMosaic Idealize.ShloMosaic.Pointwise

/-- A smaller entry, or an equal entry at an earlier place. -/
def sooner {n : ℕ} (f : Fin n → EReal) (a b : Fin n) : Prop := f a < f b ∨ (f a = f b ∧ a < b)

theorem sooner_le {n : ℕ} {f : Fin n → EReal} {a b : Fin n} (h : sooner f a b) : f a ≤ f b :=
  h.elim le_of_lt fun e => le_of_eq e.1

variable {n : ℕ} (f : Fin n → EReal) (before : Fin n → Fin n → Bool) (hb : ∀ a b, before a b = true ↔ f a < f b)
include hb

/-- Inserting a place that precedes all of a sorted list keeps the list sorted, ties in order of place. -/
theorem insert_sooner (a : Fin n) (l : List (Fin n)) (hl : l.Pairwise (sooner f)) (ha : ∀ b ∈ l, a < b) :
    (insertBefore before a l).Pairwise (sooner f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore before a l).mem_iff.mp hc) with rfl | hc'
      · exact Or.inl ((hb b c).mp h)
      · exact hl.1 c hc'
    · rename_i h
      have hab : f a ≤ f b := not_lt.mp fun e => h ((hb b a).mpr e)
      refine List.pairwise_cons.mpr ⟨fun c hc => ?_, List.pairwise_cons.mpr hl⟩
      have hac : f a ≤ f c := by
        rcases List.mem_cons.mp hc with rfl | hc'
        · exact hab
        · exact hab.trans (sooner_le (hl.1 c hc'))
      rcases hac.lt_or_eq with e | e
      · exact Or.inl e
      · exact Or.inr ⟨e, ha c hc⟩

theorem sort_sooner (l : List (Fin n)) (hl : l.Pairwise (· < ·)) : (stableSort before l).Pairwise (sooner f) := by
  induction l with
  | nil => exact List.Pairwise.nil
  | cons a l ih =>
    rw [List.pairwise_cons] at hl
    unfold stableSort
    exact insert_sooner f before hb a _ (ih hl.2) fun b h => hl.1 b ((perm_stableSort before l).mem_iff.mp h)

/-- The sorted places come in order. -/
theorem sorted_sooner (i j : Fin n) (hij : i < j) : sooner f (sortedFrom before i) (sortedFrom before j) := by
  have hp : ∀ a b : Fin (sortPositions n before).length, a < b →
      sooner f ((sortPositions n before).get a) ((sortPositions n before).get b) :=
    List.pairwise_iff_get.mp (sort_sooner f before hb (List.finRange n) (List.pairwise_lt_finRange n))
  unfold sortedFrom
  exact hp _ _ (by simp only [Fin.lt_def, Fin.val_cast]; exact hij)

omit hb

variable (v : Fin 225 → EReal) (hv : ∀ j, v j < Ideal.ofBits .f32 0x7F7FC99E#32) (s : Fin 225 → Fin 225)
  (hi : Function.Injective s) (hs : ∀ i j, i < j → sooner v (s i) (s j))
include hv hi hs

/-- What a round chooses, given which entries the rounds before it replaced. -/
theorem pick_of_rest (r : Fin 225)
    (h : ∀ q : Fin 225, rest v r.val (s q) = if q.val < r.val then Ideal.ofBits .f32 0x7F7FC99E#32 else v (s q)) :
    pick v r.val = s r := by
  have hsurj : Function.Surjective s := Finite.injective_iff_surjective.mp hi
  have hr : rest v r.val (s r) = v (s r) := by rw [h r, if_neg (lt_irrefl _)]
  refine amin_eq _ _ (fun j => ?_) fun j hj => ?_
  · obtain ⟨q, rfl⟩ := hsurj j
    rw [hr, h q]
    split
    · exact (hv _).le
    · rename_i hq
      rcases (not_lt.mp hq).lt_or_eq with e | e
      · exact sooner_le (hs r q e)
      · rw [show r = q from Fin.ext e]
  · obtain ⟨q, rfl⟩ := hsurj j
    rw [hr, h q]
    split
    · exact hv _
    · rename_i hq
      rcases (not_lt.mp hq).lt_or_eq with e | e
      · rcases hs r q e with e' | e'
        · exact e'
        · exact absurd hj (not_lt.mpr e'.2.le)
      · rw [show r = q from Fin.ext e] at hj
        exact absurd hj (lt_irrefl _)

/-- The rounds replace the sorted places one by one. -/
theorem rest_sorted (r : ℕ) (hr : r ≤ 225) (q : Fin 225) :
    rest v r (s q) = if q.val < r then Ideal.ofBits .f32 0x7F7FC99E#32 else v (s q) := by
  induction r generalizing q with
  | zero => rw [if_neg (Nat.not_lt_zero _)]; rfl
  | succ r ih =>
    have hp : amin (rest v r) = s ⟨r, hr⟩ := pick_of_rest v hv s hi hs ⟨r, hr⟩ fun q => ih (Nat.le_of_succ_le hr) q
    show (if s q = amin (rest v r) then _ else rest v r (s q)) = _
    rw [hp, ih (Nat.le_of_succ_le hr) q]
    by_cases e : q.val = r
    · rw [if_pos (congrArg s (Fin.ext e : q = ⟨r, hr⟩)), if_pos (by omega)]
    · rw [if_neg fun h => e (congrArg Fin.val (hi h))]
      by_cases e' : q.val < r
      · rw [if_pos e', if_pos (by omega)]
      · rw [if_neg e', if_neg (by omega)]

/-- The round's choice is the sorted place. -/
theorem pick_sorted (r : Fin 225) : pick v r.val = s r :=
  pick_of_rest v hv s hi hs r fun q => rest_sorted v hv s hi hs r.val r.isLt.le q

end Cert.Math

end
-- ==== Proof.RefCand.lean ====
/-
  The reference's candidates and its distances, at an index.
-/
module

public import proofs.«01_k».proof.Proof.HostPre
public import proofs.«01_k».proof.Proof.Gen.ReferenceIdeal.Read

@[expose] public section

set_option maxRecDepth 16384

noncomputable section

namespace Cert.ReferenceIdeal.Hand

open Idealize.ShloMosaic Idealize.ShloMosaic.Pointwise Cert.ReferenceIdeal Cert.ReferenceIdeal.Gen Cert.ReferenceIdeal.Read Cert.Math
open Cert.KernelIdeal.Hand (right0 right2 down0 down2 right0_apply right2_apply down0_apply down2_apply)
open Cert.ReferenceIdeal.Facts

/-! ## Rolled copies and patches -/

/-- The feature map cut into patches, one batch for each. -/
def pieces (x : Vec Ideal S50x64x48x48 .f32) : Vec Ideal S288x1024x25 .f32 :=
  shapeCast S288x1024x25 (transpose S2x12x12x64x4x4x25 [0, 3, 5, 2, 4, 6, 1]
    (shapeCast S2x25x64x12x4x12x4 x shapeCasts_S50x64x48x48_S2x25x64x12x4x12x4)
    transposes_S2x25x64x12x4x12x4_S2x12x12x64x4x4x25_0_3_5_2_4_6_1) shapeCasts_S2x12x12x64x4x4x25_S288x1024x25

/-- The feature map rolled right by four. -/
def right4 (x : Vec Ideal S50x64x48x48 .f32) : Vec Ideal S50x64x48x48 .f32 :=
  concatenate S50x64x48x48 3 [⟨S50x64x48x4, extractStridedSlice S50x64x48x4 ![0, 0, 0, 44] x slices_S50x64x48x48_S50x64x48x4_0_0_0_44⟩,
    ⟨S50x64x48x44, extractStridedSlice S50x64x48x44 ![0, 0, 0, 0] x slices_S50x64x48x48_S50x64x48x44_0_0_0_0⟩]
    concatenates_S50x64x48x4_S50x64x48x44_S50x64x48x48_d3

/-- The feature map rolled down by four. -/
def down4 (x : Vec Ideal S50x64x48x48 .f32) : Vec Ideal S50x64x48x48 .f32 :=
  concatenate S50x64x48x48 2 [⟨S50x64x4x48, extractStridedSlice S50x64x4x48 ![0, 0, 44, 0] x slices_S50x64x48x48_S50x64x4x48_0_0_44_0⟩,
    ⟨S50x64x44x48, extractStridedSlice S50x64x44x48 ![0, 0, 0, 0] x slices_S50x64x48x48_S50x64x44x48_0_0_0_0⟩]
    concatenates_S50x64x4x48_S50x64x44x48_S50x64x48x48_d2

theorem right4_apply (x : Vec Ideal S50x64x48x48 .f32) (b : Fin 50) (c : Fin 64) (y z : Fin 48) :
    right4 x (ix4 b c y z) = x (ix4 b c y ⟨(z.val + 44) % 48, by omega⟩) := by
  pointwise [right4]
  split
  · exact congrArg (fun u => x (ix4 b c y u)) (Fin.ext (by show 44 + z.val = (z.val + 44) % 48; omega))
  · exact congrArg (fun u => x (ix4 b c y u)) (Fin.ext (by show z.val - 4 = (z.val + 44) % 48; omega))

theorem down4_apply (x : Vec Ideal S50x64x48x48 .f32) (b : Fin 50) (c : Fin 64) (y z : Fin 48) :
    down4 x (ix4 b c y z) = x (ix4 b c ⟨(y.val + 44) % 48, by omega⟩ z) := by
  pointwise [down4]
  split
  · exact congrArg (fun u => x (ix4 b c u z)) (Fin.ext (by show 44 + y.val = (y.val + 44) % 48; omega))
  · exact congrArg (fun u => x (ix4 b c u z)) (Fin.ext (by show y.val - 4 = (y.val + 44) % 48; omega))

theorem pieces_apply (x : Vec Ideal S50x64x48x48 .f32) (b : Fin 288) (k : Fin 1024) (a : Fin 25) :
    pieces x (ix3 b k a) = x (ix4 ⟨b.val / 144 * 25 + a.val, by omega⟩ ⟨k.val / 16, by omega⟩
      ⟨b.val / 12 % 12 * 4 + k.val / 4 % 4, by omega⟩ ⟨b.val % 12 * 4 + k.val % 4, by omega⟩) := by
  pointwise [pieces]

/-- Rolling right by none, two or four. -/
def rightBy (x : Vec Ideal S50x64x48x48 .f32) : Fin 3 → Vec Ideal S50x64x48x48 .f32 := ![right0 x, right2 x, right4 x]

/-- Rolling down by none, two or four. -/
def downBy (x : Vec Ideal S50x64x48x48 .f32) : Fin 3 → Vec Ideal S50x64x48x48 .f32 := ![down0 x, down2 x, down4 x]

theorem rightBy_apply (x : Vec Ideal S50x64x48x48 .f32) (b : Fin 50) (c : Fin 64) (y z : Fin 48) : ∀ i : Fin 3,
    rightBy x i (ix4 b c y z) = x (ix4 b c y ⟨(z.val + 48 - 2 * i.val) % 48, by omega⟩)
  | 0 => (right0_apply x b c y z).trans (congrArg (fun u => x (ix4 b c y u)) (Fin.ext (by show z.val = (z.val + 48 - 2 * 0) % 48; omega)))
  | 1 => right2_apply x b c y z
  | 2 => right4_apply x b c y z

theorem downBy_apply (x : Vec Ideal S50x64x48x48 .f32) (b : Fin 50) (c : Fin 64) (y z : Fin 48) : ∀ i : Fin 3,
    downBy x i (ix4 b c y z) = x (ix4 b c ⟨(y.val + 48 - 2 * i.val) % 48, by omega⟩ z)
  | 0 => (down0_apply x b c y z).trans (congrArg (fun u => x (ix4 b c u z)) (Fin.ext (by show y.val = (y.val + 48 - 2 * 0) % 48; omega)))
  | 1 => down2_apply x b c y z
  | 2 => down4_apply x b c y z

/-! ## The candidates -/

/-- The video, patch row and patch column of a batch. -/
def bn (b : Fin 288) : Fin 2 := ⟨b.val / 144, by omega⟩
def bh (b : Fin 288) : Fin 12 := ⟨b.val / 12 % 12, by omega⟩
def bw (b : Fin 288) : Fin 12 := ⟨b.val % 12, by omega⟩

variable (x0 : Vec Ideal S50x64x48x48 .f32)

/-! Each rolled copy of the reference, by its shift. -/

theorem v4_eq : val_main_v4 (F := Ideal) x0 = right0 (down0 x0) := rfl
theorem v8_eq : val_main_v8 (F := Ideal) x0 = right2 (down0 x0) := rfl
theorem v12_eq : val_main_v12 (F := Ideal) x0 = right4 (down0 x0) := rfl
theorem v16_eq : val_main_v16 (F := Ideal) x0 = right0 (down2 x0) := rfl
theorem v20_eq : val_main_v20 (F := Ideal) x0 = right2 (down2 x0) := rfl
theorem v24_eq : val_main_v24 (F := Ideal) x0 = right4 (down2 x0) := rfl
theorem v28_eq : val_main_v28 (F := Ideal) x0 = right0 (down4 x0) := rfl
theorem v32_eq : val_main_v32 (F := Ideal) x0 = right2 (down4 x0) := rfl
theorem v36_eq : val_main_v36 (F := Ideal) x0 = right4 (down4 x0) := rfl

/-! Each piece is the patches of its rolled copy. -/

theorem v7_eq : val_main_v7 (F := Ideal) x0 = pieces (val_main_v4 (F := Ideal) x0) := rfl
theorem v11_eq : val_main_v11 (F := Ideal) x0 = pieces (val_main_v8 (F := Ideal) x0) := rfl
theorem v15_eq : val_main_v15 (F := Ideal) x0 = pieces (val_main_v12 (F := Ideal) x0) := rfl
theorem v19_eq : val_main_v19 (F := Ideal) x0 = pieces (val_main_v16 (F := Ideal) x0) := rfl
theorem v23_eq : val_main_v23 (F := Ideal) x0 = pieces (val_main_v20 (F := Ideal) x0) := rfl
theorem v27_eq : val_main_v27 (F := Ideal) x0 = pieces (val_main_v24 (F := Ideal) x0) := rfl
theorem v31_eq : val_main_v31 (F := Ideal) x0 = pieces (val_main_v28 (F := Ideal) x0) := rfl
theorem v35_eq : val_main_v35 (F := Ideal) x0 = pieces (val_main_v32 (F := Ideal) x0) := rfl
theorem v39_eq : val_main_v39 (F := Ideal) x0 = pieces (val_main_v36 (F := Ideal) x0) := rfl

/-- The patches of a copy rolled by a shift are the shifted patches. -/
theorem pieces_feat (i : Fin 9) (p : Vec Ideal S288x1024x25 .f32)
    (h : p = pieces (rightBy (downBy x0 ⟨i.val / 3, by omega⟩) ⟨i.val % 3, by omega⟩)) (b : Fin 288) (k : Fin 1024) (a : Fin 25) :
    p (ix3 b k a) = feat x0 (bn b) (bh b) (bw b) i k a := by
  rw [h, pieces_apply, rightBy_apply, downBy_apply]
  rfl

theorem feat_cand (i : Fin 9) (b : Fin 288) (k : Fin 1024) (a : Fin 25) (j : Fin 225) (h : j.val = 25 * i.val + a.val) :
    feat x0 (bn b) (bh b) (bw b) i k a = cand x0 (bn b) (bh b) (bw b) k j := by
  unfold cand
  rw [show (⟨j.val / 25, by omega⟩ : Fin 9) = i from Fin.ext (by show j.val / 25 = i.val; omega),
    show (⟨j.val % 25, by omega⟩ : Fin 25) = a from Fin.ext (by show j.val % 25 = a.val; omega)]

/-- The stack of candidates. -/
theorem v40_apply (b : Fin 288) (k : Fin 1024) (j : Fin 225) :
    val_main_v40 (F := Ideal) x0 (ix3 b k j) = cand x0 (bn b) (bh b) (bw b) k j := by
  pointwise [val_main_v40]
  split
  · exact (pieces_feat x0 0 _ (by rw [v7_eq, v4_eq]; rfl) b k _).trans (feat_cand x0 0 b k _ j (by simp only [Fin.val_ofNat, Fin.isValue]; omega))
  split
  · exact (pieces_feat x0 1 _ (by rw [v11_eq, v8_eq]; rfl) b k _).trans (feat_cand x0 1 b k _ j (by simp only [Fin.val_ofNat, Fin.isValue]; omega))
  split
  · exact (pieces_feat x0 2 _ (by rw [v15_eq, v12_eq]; rfl) b k _).trans (feat_cand x0 2 b k _ j (by simp only [Fin.val_ofNat, Fin.isValue]; omega))
  split
  · exact (pieces_feat x0 3 _ (by rw [v19_eq, v16_eq]; rfl) b k _).trans (feat_cand x0 3 b k _ j (by simp only [Fin.val_ofNat, Fin.isValue]; omega))
  split
  · exact (pieces_feat x0 4 _ (by rw [v23_eq, v20_eq]; rfl) b k _).trans (feat_cand x0 4 b k _ j (by simp only [Fin.val_ofNat, Fin.isValue]; omega))
  split
  · exact (pieces_feat x0 5 _ (by rw [v27_eq, v24_eq]; rfl) b k _).trans (feat_cand x0 5 b k _ j (by simp only [Fin.val_ofNat, Fin.isValue]; omega))
  split
  · exact (pieces_feat x0 6 _ (by rw [v31_eq, v28_eq]; rfl) b k _).trans (feat_cand x0 6 b k _ j (by simp only [Fin.val_ofNat, Fin.isValue]; omega))
  split
  · exact (pieces_feat x0 7 _ (by rw [v35_eq, v32_eq]; rfl) b k _).trans (feat_cand x0 7 b k _ j (by simp only [Fin.val_ofNat, Fin.isValue]; omega))
  · exact (pieces_feat x0 8 _ (by rw [v39_eq, v36_eq]; rfl) b k _).trans (feat_cand x0 8 b k _ j (by simp only [Fin.val_ofNat, Fin.isValue]; omega))

/-- The query is the first candidate's frames. -/
theorem v3_apply (b : Fin 288) (a : Fin 25) (k : Fin 1024) :
    val_main_v3 (F := Ideal) x0 (ix3 b a k) = cand x0 (bn b) (bh b) (bw b) k ⟨a.val, by omega⟩ := by
  refine Eq.trans ?_ (feat_cand x0 0 b k a ⟨a.val, by omega⟩ (by show a.val = 25 * 0 + a.val; omega))
  pointwise [val_main_v0, val_main_v1, val_main_v2, val_main_v3]
  unfold feat
  congr 2
  · apply Fin.ext
    show b.val / 12 % 12 * 4 + k.val / 4 % 4 = (b.val / 12 % 12 * 4 + k.val / 4 % 4 + 48 - 2 * (0 / 3)) % 48
    omega
  · apply Fin.ext
    show b.val % 12 * 4 + k.val % 4 = (b.val % 12 * 4 + k.val % 4 + 48 - 2 * (0 % 3)) % 48
    omega

/-! ## The distances -/

/-- The squared distance of query frame `a` and candidate `j`, as the reference computes it. -/
def dist (X : (⟨4, ![50, 64, 48, 48]⟩ : Shape).Idx → EReal) (n : Fin 2) (ph pw : Fin 12) (a : Fin 25) (j : Fin 225) : EReal :=
  Ideal.ofBits .f32 0xC0000000#32 * (∑ k : Fin 1024, cand X n ph pw k ⟨a.val, by omega⟩ * cand X n ph pw k j)
    + (∑ k : Fin 1024, cand X n ph pw k ⟨a.val, by omega⟩ * cand X n ph pw k ⟨a.val, by omega⟩)
    + ∑ k : Fin 1024, cand X n ph pw k j * cand X n ph pw k j

theorem v54_apply (b : Fin 288) (a : Fin 25) (j : Fin 225) :
    val_main_v54 (F := Ideal) x0 (ix3 b a j) = -dist x0 (bn b) (bh b) (bw b) a j := by
  pointwise [val_main_cst, val_main_v42, val_main_v43, val_main_v44, val_main_cst_0, val_main_v45, val_main_v46, val_main_v47,
    val_main_v48, val_main_v49, val_main_cst_1, val_main_v50, val_main_v51, val_main_v52, val_main_v53, val_main_v54, val_main_v41]
  simp only [v3_apply, v40_apply]
  rfl

end Cert.ReferenceIdeal.Hand

end
-- ==== Proof.RefTopK.lean ====
/-
  The reference's selection of the six nearest candidates, at an index.
-/
module

public import proofs.«01_k».proof.Proof.RefSort
public import proofs.«01_k».proof.Proof.RefCand

@[expose] public section

set_option maxRecDepth 16384

noncomputable section

namespace Cert.ReferenceIdeal.Hand

open Idealize.ShloMosaic Idealize.ShloMosaic.Pointwise Cert.ReferenceIdeal Cert.ReferenceIdeal.Gen Cert.ReferenceIdeal.Read Cert.Math
open Cert.ReferenceIdeal.Facts

/-- The places of the six greatest entries of each row. -/
def greatest (x : Vec Ideal S288x25x225 .f32) : IVec S288x25x6 32 :=
  (Host.topK S288x25x6 2 (FloatOps.cmpfTotal (F := Ideal) (φ := .f32) .gt) x sliceFits_S288x25x225_S288x25x6).2

theorem along_eq (b : Fin 288) (a : Fin 25) (j k : Fin 225) :
    Shape.Idx.along (s := S288x25x225) (ix3 b a j) 2 k = ix3 b a k := by
  funext d
  match d with
  | ⟨0, _⟩ => rfl
  | ⟨1, _⟩ => rfl
  | ⟨2, _⟩ => rfl

/-- The comparison that puts the greater entry first. -/
abbrev more (u v : EReal) : BitVec 1 := FloatOps.cmpfTotal (F := Ideal) (φ := .f32) .gt u v

/-- A row's own places. -/
def places : IVec S288x25x225 32 := fun i => if hd : 2 < S288x25x225.rank then iotaInDim S288x25x225 32 ⟨2, hd⟩ i else 0#32

theorem places_apply (b : Fin 288) (a : Fin 25) (k : Fin 225) : places (ix3 b a k) = BitVec.ofNat 32 k.val := by
  unfold places
  rw [dif_pos (by decide)]
  rfl

/-- The places of a row, sorted with it. -/
theorem sorted_apply (x : Vec Ideal S288x25x225 .f32) (y : IVec S288x25x225 32) (b : Fin 288) (a : Fin 25) (j : Fin 225) :
    (Host.sort2 S288x25x225 2 (fun l r : EReal × BitVec 32 => more l.1 r.1) x y).2 (ix3 b a j)
      = y (ix3 b a (sortedFrom (fun k k' : Fin 225 => more (x (ix3 b a k)) (x (ix3 b a k')) == 1#1) j)) := by
  unfold Host.sort2
  rw [dif_pos (by decide)]
  show y (Shape.Idx.along (s := S288x25x225) (ix3 b a j) 2 (sortedFrom (fun k k' : Fin 225 =>
    more (x (Shape.Idx.along (s := S288x25x225) (ix3 b a j) 2 k)) (x (Shape.Idx.along (s := S288x25x225) (ix3 b a j) 2 k')) == 1#1) j)) = _
  refine (congrArg y (along_eq b a j _)).trans ?_
  refine congrArg (fun s => y (ix3 b a (sortedFrom s j))) (funext fun k => funext fun k' => ?_)
  exact congrArg₂ (fun p q => more (x p) (x q) == 1#1) (along_eq b a j k) (along_eq b a j k')

/-- Entry `r` of a row of places is where a stable sort puts place `r`. -/
theorem greatest_apply (x : Vec Ideal S288x25x225 .f32) (b : Fin 288) (a : Fin 25) (r : Fin 6) :
    greatest x (ix3 b a r) = BitVec.ofNat 32
      (sortedFrom (fun k k' : Fin 225 => more (x (ix3 b a k)) (x (ix3 b a k')) == 1#1) ⟨r.val, by omega⟩).val := by
  have e : greatest x (ix3 b a r) = (Host.sort2 S288x25x225 2 (fun l r : EReal × BitVec 32 => more l.1 r.1) x places).2
      (ix3 b a (⟨r.val, by omega⟩ : Fin 225)) := by
    refine congrArg (Host.sort2 S288x25x225 2 (fun l r : EReal × BitVec 32 => more l.1 r.1) x places).2 ?_
    funext d
    match d with
    | ⟨0, _⟩ => exact Fin.ext (Nat.zero_add _)
    | ⟨1, _⟩ => exact Fin.ext (Nat.zero_add _)
    | ⟨2, _⟩ => exact Fin.ext (Nat.zero_add _)
  rw [e, sorted_apply, places_apply]

end Cert.ReferenceIdeal.Hand

end
-- ==== Proof.RefBound.lean ====
/-
  Bounded features have real distances and scores, below the number with which the kernel replaces a chosen score; and the
  distances order the candidates as the scores do.
-/
module

public import proofs.«01_k».proof.Proof.RefTopK

@[expose] public section

noncomputable section

namespace Cert.Math

open Idealize.ShloMosaic Idealize.ShloMosaic.Pointwise
open Cert.ReferenceIdeal.Hand (dist more)

theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

theorem minus_two : Ideal.ofBits .f32 0xC0000000#32 = ((-2 : ℝ) : EReal) := by
  simp [Ideal.ofBits, Ideal.ieee, -EReal.coe_mul, -EReal.coe_neg]; norm_num

theorem big : Ideal.ofBits .f32 0x7F7FC99E#32 = ((16763294 * 2 ^ 104 : ℝ) : EReal) := by
  simp [Ideal.ofBits, Ideal.ieee, -EReal.coe_mul]

theorem bound : Ideal.ofBits .f32 0x5C800000#32 = ((2 ^ 58 : ℝ) : EReal) := by
  simp [Ideal.ofBits, Ideal.ieee, -EReal.coe_mul, -EReal.coe_pow]; norm_num

/-- Every feature is a real number of magnitude at most `2 ^ 58`. -/
def Small (X : (⟨4, ![50, 64, 48, 48]⟩ : Shape).Idx → EReal) : Prop := ∀ i, ∃ x : ℝ, X i = x ∧ |x| ≤ 2 ^ 58

variable (X : (⟨4, ![50, 64, 48, 48]⟩ : Shape).Idx → EReal) (hX : Small X) (n : Fin 2) (ph pw : Fin 12)
include hX

theorem cand_real : ∃ c : Fin 1024 → Fin 225 → ℝ, (∀ k j, cand X n ph pw k j = c k j) ∧ ∀ k j, |c k j| ≤ 2 ^ 58 := by
  have h : ∀ k j, ∃ x : ℝ, cand X n ph pw k j = x ∧ |x| ≤ 2 ^ 58 := fun k j => hX _
  choose c hc using h
  exact ⟨c, fun k j => (hc k j).1, fun k j => (hc k j).2⟩

omit hX in
/-- The inner product of two real candidates. -/
theorem dot_real (c : Fin 1024 → Fin 225 → ℝ) (hc : ∀ k j, cand X n ph pw k j = c k j) (i j : Fin 225) :
    ∑ k : Fin 1024, cand X n ph pw k i * cand X n ph pw k j = ((∑ k : Fin 1024, c k i * c k j : ℝ) : EReal) := by
  rw [coe_sum]
  exact Finset.sum_congr rfl fun k _ => by rw [hc, hc, EReal.coe_mul]

omit hX in
/-- The inner product of two small candidates. -/
theorem dot_le (c : Fin 1024 → Fin 225 → ℝ) (hc : ∀ k j, |c k j| ≤ 2 ^ 58) (i j : Fin 225) :
    |∑ k : Fin 1024, c k i * c k j| ≤ 2 ^ 126 := by
  refine (Finset.abs_sum_le_sum_abs _ _).trans ?_
  refine (Finset.sum_le_card_nsmul _ _ (2 ^ 116) fun k _ => ?_).trans ?_
  · rw [abs_mul]
    exact (mul_le_mul (hc k i) (hc k j) (abs_nonneg _) (by positivity)).trans (by norm_num)
  · rw [Finset.card_univ, Fintype.card_fin, nsmul_eq_mul]; norm_num

/-- Scores are smaller than the replacement. -/
theorem score_lt (a : Fin 25) (j : Fin 225) : score X n ph pw a j < Ideal.ofBits .f32 0x7F7FC99E#32 := by
  obtain ⟨c, hc, hs⟩ := cand_real X hX n ph pw
  unfold score
  rw [dot_real X n ph pw c hc, dot_real X n ph pw c hc, minus_two, big, ← EReal.coe_mul, ← EReal.coe_add, EReal.coe_lt_coe_iff]
  have h1 := (abs_le.mp (dot_le c hs ⟨a.val, by omega⟩ j)).1
  have h2 := (abs_le.mp (dot_le c hs j j)).2
  norm_num at h1 h2 ⊢
  linarith

/-- A distance puts one candidate before another exactly when its score does. -/
theorem nearer_iff (a : Fin 25) (j j' : Fin 225) :
    (more (-dist X n ph pw a j) (-dist X n ph pw a j') == 1#1) = true ↔ score X n ph pw a j < score X n ph pw a j' := by
  obtain ⟨c, hc, _⟩ := cand_real X hX n ph pw
  have e : (more (-dist X n ph pw a j) (-dist X n ph pw a j') == 1#1) = true ↔ dist X n ph pw a j < dist X n ph pw a j' := by
    rw [← EReal.neg_lt_neg_iff]
    show (BitVec.ofBool (decide (-dist X n ph pw a j' < -dist X n ph pw a j)) == 1#1) = true ↔ _
    by_cases h : -dist X n ph pw a j' < -dist X n ph pw a j <;> simp [h]
  rw [e]
  unfold Cert.ReferenceIdeal.Hand.dist score
  simp only [dot_real X n ph pw c hc, minus_two, ← EReal.coe_mul, ← EReal.coe_add, EReal.coe_lt_coe_iff]
  constructor <;> intro h <;> linarith

end Cert.Math

end
-- ==== Proof.RefTake.lean ====
/-
  The reference's reading of the chosen candidates: a gather along the last axis whose places all lie inside the array.
-/
module

public import proofs.«01_k».proof.Proof.RefBound
public import Idealize.ShloMosaic.Lib.ReduceAll

@[expose] public section

set_option maxRecDepth 16384

noncomputable section

namespace Cert.ReferenceIdeal.Hand

open Idealize.ShloMosaic Idealize.ShloMosaic.Pointwise Cert.ReferenceIdeal Cert.ReferenceIdeal.Gen Cert.ReferenceIdeal.Read Cert.Math
open Cert.ReferenceIdeal.Facts

/-! ## The chosen places -/

theorem indices_eq (x0 : Vec Ideal S50x64x48x48 .f32) :
    val_main_indices (F := Ideal) x0 = greatest (val_main_v54 (F := Ideal) x0) := rfl

/-- The reference chooses the candidates that the rounds choose. -/
theorem indices_apply (x0 : Vec Ideal S50x64x48x48 .f32) (hX : Small x0) (b : Fin 288) (a : Fin 25) (r : Fin 6) :
    val_main_indices (F := Ideal) x0 (ix3 b a r)
      = BitVec.ofNat 32 (pick (score x0 (bn b) (bh b) (bw b) a) r.val).val := by
  rw [indices_eq, greatest_apply]
  simp only [v54_apply]
  rw [← pick_sorted (score x0 (bn b) (bh b) (bw b) a) (score_lt x0 hX _ _ _ a) _ (sortedFrom_injective _)
    (sorted_sooner _ _ (nearer_iff x0 hX _ _ _ a)) ⟨r.val, by omega⟩]

/-! ## Reading along an axis at places inside it -/

/-- A row of places, one copy for each feature, the six places of a query side by side. -/
def copied (g : IVec S288x25x6 32) : IVec S288x1024x150 32 :=
  shapeCast S288x1024x150 (broadcastInDim S288x1024x25x6 ![0, 1, 2, 3] bcast_S288x1x25x6_S288x1024x25x6_0_1_2_3
    (broadcastInDim S288x1x25x6 ![0, 2, 3] bcast_S288x25x6_S288x1x25x6_0_2_3 g)) shapeCasts_S288x1024x25x6_S288x1024x150

theorem copied_apply (g : IVec S288x25x6 32) (b : Fin 288) (k : Fin 1024) (j : Fin 150) :
    copied g (ix3 b k j) = g (ix3 b ⟨j.val / 6, by omega⟩ ⟨j.val % 6, by omega⟩) := by
  pointwise [copied]

/-- A place, or a place counted from the end when negative. -/
def wrapped (w : IVec S288x1024x150 32) : IVec S288x1024x150x1 32 :=
  shapeCast S288x1024x150x1 (select (cmpi .slt w (broadcastInDim S288x1024x150 ![] bcast_S_S288x1024x150 (constantI S_ 32 0#32)))
    (addi w (broadcastInDim S288x1024x150 ![] bcast_S_S288x1024x150 (constantI S_ 32 225#32))) w)
    shapeCasts_S288x1024x150_S288x1024x150x1

/-- Whether a place lies inside the axis. -/
def inside (i : IVec S288x1024x150x1 32) : IVec S288x1024x150 1 :=
  Host.reduce IntOp.andi (andi (cmpi .sge i (broadcastInDim S288x1024x150x1 ![] bcast_S_S288x1024x150x1 (constantI S_ 32 0#32)))
    (cmpi .sle i (broadcastInDim S288x1024x150x1 ![0, 1, 2, 3] bcast_S1x1x1x1_S288x1024x150x1_0_1_2_3
      (broadcastInDim S1x1x1x1 ![3] bcast_S1_S1x1x1x1_3 (constantI S1 32 224#32)))))
    (constantI S_ 1 1#1) reducesTo_S288x1024x150x1_S288x1024x150_d3 h_S_

/-- The entries at the given places. -/
def fetched (x : Vec Ideal S288x1024x225 .f32) (i : IVec S288x1024x150x1 32) : Vec Ideal S288x1024x150 .f32 :=
  Host.gather gather_S288x1024x225_S288x1024x150x1_S288x1024x150_n_2_01_01_2_3_111 x i

/-- The entries at the given places, and a fixed word for places outside. -/
def taken (x : Vec Ideal S288x1024x225 .f32) (w : IVec S288x1024x150 32) : Vec Ideal S288x1024x150 .f32 :=
  select (inside (wrapped w)) (fetched x (wrapped w))
    (broadcastInDim S288x1024x150 ![] bcast_S_S288x1024x150 (constant (F := Ideal) S_ .f32 0x7FC00000#32))

theorem word_wrapped : ∀ p : Fin 225, Scalar.select (IntOp.cmpi .slt (BitVec.ofNat 32 p.val) 0#32)
    (IntOp.addi (BitVec.ofNat 32 p.val) 225#32) (BitVec.ofNat 32 p.val) = BitVec.ofNat 32 p.val := by decide

theorem word_inside : ∀ p : Fin 225, IntOp.andi (IntOp.cmpi .sge (BitVec.ofNat 32 p.val) 0#32)
    (IntOp.cmpi .sle (BitVec.ofNat 32 p.val) 224#32) = 1#1 := by decide

theorem word_place : ∀ p : Fin 225, min (BitVec.ofNat 32 p.val).toInt.toNat (225 - 1) = p.val := by decide

theorem wrapped_apply (w : IVec S288x1024x150 32) (b : Fin 288) (k : Fin 1024) (j : Fin 150) (z : Fin 1) (p : Fin 225)
    (h : w (ix3 b k j) = BitVec.ofNat 32 p.val) : wrapped w (ix4 b k j z) = BitVec.ofNat 32 p.val := by
  have e : wrapped w (ix4 b k j z) = Scalar.select (IntOp.cmpi .slt (w (ix3 b k j)) 0#32)
      (IntOp.addi (w (ix3 b k j)) 225#32) (w (ix3 b k j)) := by
    pointwise [wrapped]
  rw [e, h, word_wrapped]

theorem inside_apply (i : IVec S288x1024x150x1 32) (hi : ∀ y, ∃ p : Fin 225, i y = BitVec.ofNat 32 p.val) (y : S288x1024x150.Idx) :
    inside i y = 1#1 := by
  refine Host.reduce_andi_one _ _ _ _ y rfl fun y => ?_
  obtain ⟨p, hp⟩ := hi y
  show IntOp.andi (IntOp.cmpi .sge (i y) 0#32) (IntOp.cmpi .sle (i y) 224#32) = 1#1
  rw [hp, word_inside]

/-- The gather's dimension numbers. -/
abbrev along2 : GatherDims S288x1024x225 S288x1024x150x1 S288x1024x150 :=
  gather_S288x1024x225_S288x1024x150x1_S288x1024x150_n_2_01_01_2_3_111

theorem along2_start (i : IVec S288x1024x150x1 32) (b : Fin 288) (k : Fin 1024) (j : Fin 150) :
    along2.start (ix3 b k j) i 2 = min (i (ix4 b k j (0 : Fin 1))).toInt.toNat (225 - 1) := by
  unfold GatherDims.start
  rw [dif_pos (by decide)]
  refine congrArg (fun y => min (i y).toInt.toNat (225 - 1)) (funext fun a => ?_)
  match a with
  | ⟨0, _⟩ => rfl
  | ⟨1, _⟩ => rfl
  | ⟨2, _⟩ => rfl
  | ⟨3, _⟩ => rfl

theorem fetched_apply (x : Vec Ideal S288x1024x225 .f32) (i : IVec S288x1024x150x1 32) (b : Fin 288) (k : Fin 1024) (j : Fin 150)
    (p : Fin 225) (h : i (ix4 b k j (0 : Fin 1)) = BitVec.ofNat 32 p.val) : fetched x i (ix3 b k j) = x (ix3 b k p) := by
  have h0 : along2.start (ix3 b k j) i 0 + along2.batchCoord (ix3 b k j) 0 + along2.offCoord (ix3 b k j) 0 = b.val := by
    rw [along2.start_batching _ _ _ (by decide), along2.offCoord_eq_zero _ _ (by decide), Nat.zero_add]
    rfl
  have h1 : along2.start (ix3 b k j) i 1 + along2.batchCoord (ix3 b k j) 1 + along2.offCoord (ix3 b k j) 1 = k.val := by
    rw [along2.start_batching _ _ _ (by decide), along2.offCoord_eq_zero _ _ (by decide), Nat.zero_add]
    rfl
  have h2 : along2.start (ix3 b k j) i 2 + along2.batchCoord (ix3 b k j) 2 + along2.offCoord (ix3 b k j) 2 = p.val := by
    rw [along2.batchCoord_eq_zero _ _ (by decide), along2.offCoord_eq_zero _ _ (by decide), along2_start, h, word_place, Nat.add_zero]
  refine congrArg x (funext fun a => ?_)
  match a with
  | ⟨0, _⟩ => exact Fin.ext h0
  | ⟨1, _⟩ => exact Fin.ext h1
  | ⟨2, _⟩ => exact Fin.ext h2

theorem select_first (m : IVec S288x1024x150 1) (x y : Vec Ideal S288x1024x150 .f32) (i : S288x1024x150.Idx) (h : m i = 1#1) :
    select m x y i = x i := by
  show Scalar.select (m i) (x i) (y i) = x i
  rw [h]
  rfl

theorem taken_apply (x : Vec Ideal S288x1024x225 .f32) (w : IVec S288x1024x150 32) (p : Fin 288 → Fin 1024 → Fin 150 → Fin 225)
    (h : ∀ b k j, w (ix3 b k j) = BitVec.ofNat 32 (p b k j).val) (b : Fin 288) (k : Fin 1024) (j : Fin 150) :
    taken x w (ix3 b k j) = x (ix3 b k (p b k j)) := by
  have hi : ∀ y, ∃ q : Fin 225, wrapped w y = BitVec.ofNat 32 q.val := fun y =>
    ⟨p (y 0) (y 1) (y 2), by
      have e := wrapped_apply w (y 0) (y 1) (y 2) (y 3) _ (h (y 0) (y 1) (y 2))
      exact (congrArg (wrapped w) (eq_ix4 y)).trans e⟩
  unfold taken
  exact (select_first _ _ _ _ (inside_apply _ hi _)).trans
    (fetched_apply x _ b k j (p b k j) (wrapped_apply w b k j 0 _ (h b k j)))

/-! ## The chosen candidates -/

theorem v57_eq (x0 : Vec Ideal S50x64x48x48 .f32) : val_main_v57 (F := Ideal) x0 = copied (val_main_indices (F := Ideal) x0) := rfl

theorem v58_eq (x0 : Vec Ideal S50x64x48x48 .f32) :
    val_main_v58 (F := Ideal) x0 = taken (val_main_v40 (F := Ideal) x0) (val_main_v57 (F := Ideal) x0) := rfl

theorem v58_apply (x0 : Vec Ideal S50x64x48x48 .f32) (hX : Small x0) (b : Fin 288) (k : Fin 1024) (j : Fin 150) :
    val_main_v58 (F := Ideal) x0 (ix3 b k j)
      = cand x0 (bn b) (bh b) (bw b) k (pick (score x0 (bn b) (bh b) (bw b) ⟨j.val / 6, by omega⟩) (j.val % 6)) := by
  rw [v58_eq, taken_apply _ _ (fun b _ j => pick (score x0 (bn b) (bh b) (bw b) ⟨j.val / 6, by omega⟩) (j.val % 6))
    (fun b k j => by rw [v57_eq, copied_apply, indices_apply x0 hX]), v40_apply]

end Cert.ReferenceIdeal.Hand

end
-- ==== Proof.RefSpread.lean ====
/-
  The reference's matched features: the chosen candidates put back in their patches, the 1 × 1 convolution and the leaky
  rectifier.
-/
module

public import proofs.«01_k».proof.Proof.RefTake
public import proofs.«01_k».proof.Proof.HostMid

@[expose] public section

set_option maxRecDepth 16384

noncomputable section

namespace Cert.ReferenceIdeal.Hand

open Idealize.ShloMosaic Idealize.ShloMosaic.Pointwise Cert.ReferenceIdeal Cert.ReferenceIdeal.Gen Cert.ReferenceIdeal.Read Cert.Math
open Cert.ReferenceIdeal.Facts

/-- The patches put back in the feature map, six channels of every frame for each of the 64. -/
def stacked (s : Vec Ideal S288x1024x150 .f32) : Vec Ideal S50x384x48x48 .f32 :=
  shapeCast S50x384x48x48 (transpose S2x25x6x64x12x4x12x4 [0, 6, 7, 3, 1, 4, 2, 5]
    (shapeCast S2x12x12x64x4x4x25x6 s shapeCasts_S288x1024x150_S2x12x12x64x4x4x25x6)
    transposes_S2x12x12x64x4x4x25x6_S2x25x6x64x12x4x12x4_0_6_7_3_1_4_2_5) shapeCasts_S2x25x6x64x12x4x12x4_S50x384x48x48

theorem stacked_apply (s : Vec Ideal S288x1024x150 .f32) (b : Fin 50) (q : Fin 384) (y z : Fin 48) :
    stacked s (ix4 b q y z) = s (ix3 ⟨b.val / 25 * 144 + y.val / 4 * 12 + z.val / 4, by omega⟩
      ⟨q.val % 64 * 16 + y.val % 4 * 4 + z.val % 4, by omega⟩ ⟨b.val % 25 * 6 + q.val / 64, by omega⟩) := by
  pointwise [stacked]

/-- The products of the 1 × 1 convolution, channels last. -/
def summed (s : Vec Ideal S50x384x48x48 .f32) (w : Vec Ideal S64x384 .f32) : Vec Ideal S50x48x48x64 .f32 :=
  Host.dotGeneral (F := Ideal) (φ₁ := .f32) (φ₂ := .f32) dot_S50x384x48x48_S64x384_S50x48x48x64_1_1_023_0_n_n none s w

/-- The 1 × 1 convolution before its rectifier. -/
def weighed (s : Vec Ideal S50x384x48x48 .f32) (w : Vec Ideal S64x384x1x1 .f32) : Vec Ideal S50x64x48x48 .f32 :=
  transpose S50x64x48x48 [0, 3, 1, 2] (summed s (shapeCast S64x384 w shapeCasts_S64x384x1x1_S64x384))
    transposes_S50x48x48x64_S50x64x48x48_0_3_1_2

theorem weighed_apply (s : Vec Ideal S50x384x48x48 .f32) (w : Vec Ideal S64x384x1x1 .f32) (b : Fin 50) (o : Fin 64) (y z : Fin 48) :
    weighed s w (ix4 b o y z) = ∑ q : Fin 384, s (ix4 b q y z) * w (ix4 o q (0 : Fin 1) (0 : Fin 1)) := by
  pointwise [weighed, summed]

/-- The leaky rectifier of every entry. -/
def rectified (x : Vec Ideal S50x64x48x48 .f32) : Vec Ideal S50x64x48x48 .f32 :=
  select (cmpf .oge x (broadcastInDim S50x64x48x48 ![] bcast_S_S50x64x48x48 (constant (F := Ideal) S_ .f32 0x00000000#32))) x
    (mulf (broadcastInDim S50x64x48x48 ![] bcast_S_S50x64x48x48 (constant (F := Ideal) S_ .f32 0x3DCCCCCD#32)) x)

theorem rectified_apply (x : Vec Ideal S50x64x48x48 .f32) (b : Fin 50) (o : Fin 64) (y z : Fin 48) :
    rectified x (ix4 b o y z) = leaky (x (ix4 b o y z)) := by
  pointwise [rectified]
  rfl

variable (x0 : Vec Ideal S50x64x48x48 .f32) (x1 : Vec Ideal S64x384x1x1 .f32)

theorem v61_eq : val_main_v61 (F := Ideal) x0 = stacked (val_main_v58 (F := Ideal) x0) := rfl
theorem v64_eq : val_main_v64 (F := Ideal) x0 x1 = weighed (val_main_v61 (F := Ideal) x0) x1 := rfl
theorem v69_eq : val_main_v69 (F := Ideal) x0 x1 = rectified (val_main_v64 (F := Ideal) x0 x1) := rfl

/-- The chosen candidate of channel block `q / 64` at a place of the feature map. -/
theorem v61_apply (hX : Small x0) (b : Fin 50) (q : Fin 384) (y z : Fin 48) :
    val_main_v61 (F := Ideal) x0 (ix4 b q y z)
      = cand x0 ⟨b.val / 25, by omega⟩ ⟨y.val / 4, by omega⟩ ⟨z.val / 4, by omega⟩ ⟨q.val % 64 * 16 + (y.val % 4 * 4 + z.val % 4), by omega⟩
        (pick (score x0 ⟨b.val / 25, by omega⟩ ⟨y.val / 4, by omega⟩ ⟨z.val / 4, by omega⟩ ⟨b.val % 25, by omega⟩) (q.val / 64)) := by
  rw [v61_eq, stacked_apply, v58_apply x0 hX]
  have e1 : bn ⟨b.val / 25 * 144 + y.val / 4 * 12 + z.val / 4, by omega⟩ = ⟨b.val / 25, by omega⟩ :=
    Fin.ext (by show (b.val / 25 * 144 + y.val / 4 * 12 + z.val / 4) / 144 = b.val / 25; omega)
  have e2 : bh ⟨b.val / 25 * 144 + y.val / 4 * 12 + z.val / 4, by omega⟩ = ⟨y.val / 4, by omega⟩ :=
    Fin.ext (by show (b.val / 25 * 144 + y.val / 4 * 12 + z.val / 4) / 12 % 12 = y.val / 4; omega)
  have e3 : bw ⟨b.val / 25 * 144 + y.val / 4 * 12 + z.val / 4, by omega⟩ = ⟨z.val / 4, by omega⟩ :=
    Fin.ext (by show (b.val / 25 * 144 + y.val / 4 * 12 + z.val / 4) % 12 = z.val / 4; omega)
  have e4 : (⟨(b.val % 25 * 6 + q.val / 64) / 6, by omega⟩ : Fin 25) = ⟨b.val % 25, by omega⟩ :=
    Fin.ext (by show (b.val % 25 * 6 + q.val / 64) / 6 = b.val % 25; omega)
  have e5 : (b.val % 25 * 6 + q.val / 64) % 6 = q.val / 64 := by omega
  have e6 : (⟨q.val % 64 * 16 + y.val % 4 * 4 + z.val % 4, by omega⟩ : Fin 1024) = ⟨q.val % 64 * 16 + (y.val % 4 * 4 + z.val % 4), by omega⟩ :=
    Fin.ext (Nat.add_assoc _ _ _)
  rw [e1, e2, e3, e6]
  show cand x0 _ _ _ _ (pick (score x0 _ _ _ ⟨(b.val % 25 * 6 + q.val / 64) / 6, _⟩) ((b.val % 25 * 6 + q.val / 64) % 6)) = _
  rw [e4, e5]

theorem v69_apply (hX : Small x0) (b : Fin 50) (o : Fin 64) (y z : Fin 48) :
    val_main_v69 (F := Ideal) x0 x1 (ix4 b o y z) = spread x0 x1 (ix4 b o y z) := by
  rw [v69_eq, rectified_apply, v64_eq, weighed_apply]
  refine congrArg leaky (Finset.sum_congr rfl fun q _ => ?_)
  rw [v61_apply x0 hX]
  rfl

/-- The matched features. -/
theorem v69_spread (hX : Small x0) : val_main_v69 (F := Ideal) x0 x1 = spread x0 x1 := by
  funext j
  exact (congrArg (val_main_v69 (F := Ideal) x0 x1) (eq_ix4 j)).trans
    ((v69_apply x0 x1 hX (j 0) (j 1) (j 2) (j 3)).trans (congrArg (spread x0 x1) (eq_ix4 j)).symm)

end Cert.ReferenceIdeal.Hand

end
-- ==== Proof.RefConv.lean ====
/-
  The reference's 3 × 3 convolution.
-/
module

public import proofs.«01_k».proof.Proof.ConvArray
public import proofs.«01_k».proof.Proof.Gen.ReferenceIdeal.Read

@[expose] public section

set_option maxRecDepth 16384

noncomputable section

namespace Cert.ReferenceIdeal.Hand

open Idealize.ShloMosaic Idealize.ShloMosaic.Pointwise Cert.ReferenceIdeal Cert.ReferenceIdeal.Read Cert.Math

variable (x0 : Vec Ideal S50x64x48x48 .f32) (x1 : Vec Ideal S64x384x1x1 .f32) (x2 : Vec Ideal S64x128x3x3 .f32)

/-- The result is the convolution of the bordered channels. -/
theorem result_apply (b : Fin 50) (o : Fin 64) (h w : Fin 48) :
    val_main_v131 (F := Ideal) x0 x1 x2 (ix4 b o h w)
      = conv x2 (fun ci y x => val_main_v71 (F := Ideal) x0 x1 (ix4 b ci y x)) o h w := by
  pointwise [val_main_cst_4, val_main_v72, val_main_v73, val_main_v74, val_main_v75, val_main_v76, val_main_v77, val_main_v78,
    val_main_v79, val_main_v80, val_main_v81, val_main_v82, val_main_v83, val_main_v84, val_main_v85, val_main_v86,
    val_main_v87, val_main_v88, val_main_v89, val_main_v90, val_main_v91, val_main_v92, val_main_v93, val_main_v94,
    val_main_v95, val_main_v96, val_main_v97, val_main_v98, val_main_v99, val_main_v100, val_main_v101, val_main_v102,
    val_main_v103, val_main_v104, val_main_v105, val_main_v106, val_main_v107, val_main_v108, val_main_v109, val_main_v110,
    val_main_v111, val_main_v112, val_main_v113, val_main_v114, val_main_v115, val_main_v116, val_main_v117, val_main_v118,
    val_main_v119, val_main_v120, val_main_v121, val_main_v122, val_main_v123, val_main_v124, val_main_v125, val_main_v126,
    val_main_cst_5, val_main_v127, val_main_v128, val_main_cst_6, val_main_v129, val_main_v130, val_main_v131]
  have e : ∀ (dy dx : Fin 3) (p q : Fin 50), p.val = dy.val + h.val → q.val = dx.val + w.val →
      ∑ x : Fin 128, val_main_v71 (F := Ideal) x0 x1 (ix4 b x p q) * x2 (ix4 o x dy dx)
        = tap x2 (fun ci y x => val_main_v71 (F := Ideal) x0 x1 (ix4 b ci y x)) dy dx o h w := by
    intro dy dx p q hp hq
    have hp' : p = ⟨dy.val + h.val, hp ▸ p.isLt⟩ := Fin.ext hp
    have hq' : q = ⟨dx.val + w.val, hq ▸ q.isLt⟩ := Fin.ext hq
    rw [hp', hq']
    exact Finset.sum_congr rfl fun x _ => mul_comm _ _
  rw [e 0 0 ⟨h.val, by omega⟩ ⟨w.val, by omega⟩ (Nat.zero_add _).symm (Nat.zero_add _).symm,
    e 0 1 ⟨h.val, by omega⟩ ⟨1 + w.val, by omega⟩ (Nat.zero_add _).symm rfl,
    e 0 2 ⟨h.val, by omega⟩ ⟨2 + w.val, by omega⟩ (Nat.zero_add _).symm rfl,
    e 1 0 ⟨1 + h.val, by omega⟩ ⟨w.val, by omega⟩ rfl (Nat.zero_add _).symm,
    e 1 1 ⟨1 + h.val, by omega⟩ ⟨1 + w.val, by omega⟩ rfl rfl,
    e 1 2 ⟨1 + h.val, by omega⟩ ⟨2 + w.val, by omega⟩ rfl rfl,
    e 2 0 ⟨2 + h.val, by omega⟩ ⟨w.val, by omega⟩ rfl (Nat.zero_add _).symm,
    e 2 1 ⟨2 + h.val, by omega⟩ ⟨1 + w.val, by omega⟩ rfl rfl,
    e 2 2 ⟨2 + h.val, by omega⟩ ⟨2 + w.val, by omega⟩ rfl rfl]
  rfl

end Cert.ReferenceIdeal.Hand

end
-- ==== Proof.Equation.lean ====
/-
  The reference's result is the kernel's, where the features are bounded.
-/
module

public import proofs.«01_k».proof.Defs
public import proofs.«01_k».proof.Proof.RefSpread
public import proofs.«01_k».proof.Proof.RefConv

@[expose] public section

set_option maxRecDepth 16384

noncomputable section

namespace Cert.ReferenceIdeal.Hand

open Idealize.ShloMosaic Idealize.ShloMosaic.Pointwise Cert.ReferenceIdeal Cert.ReferenceIdeal.Gen Cert.ReferenceIdeal.Read Cert.Math
open Cert.KernelIdeal.Hand (joined bordered value)

variable (x0 : Vec Ideal S50x64x48x48 .f32) (x1 : Vec Ideal S64x384x1x1 .f32) (x2 : Vec Ideal S64x128x3x3 .f32)

theorem v71_eq : val_main_v71 (F := Ideal) x0 x1 = bordered (joined x0 (val_main_v69 (F := Ideal) x0 x1)) := rfl

/-- The results are equal. -/
theorem result_eq (hX : Small x0) : val_main_v131 (F := Ideal) x0 x1 x2 = value x0 x1 x2 := by
  funext j
  refine (congrArg (val_main_v131 (F := Ideal) x0 x1 x2) (eq_ix4 j)).trans ((result_apply x0 x1 x2 (j 0) (j 1) (j 2) (j 3)).trans ?_)
  rw [v71_eq, v69_spread x0 x1 hX]
  rfl

end Cert.ReferenceIdeal.Hand

namespace Cert.Pre_bounded

open Idealize.ShloMosaic Idealize.ShloMosaic.Pointwise Cert.Math

theorem facts : Facts := ⟨by decide⟩

/-- An extended real whose absolute value is at most a real number is a real number of at most that magnitude. -/
theorem real_of_abs_le (x : EReal) (c : ℝ) (h : max x (-x) ≤ (c : EReal)) : ∃ r : ℝ, x = r ∧ |r| ≤ c := by
  have h1 : x ≤ c := (le_max_left _ _).trans h
  have h2 : -x ≤ c := (le_max_right _ _).trans h
  induction x with
  | bot => exact absurd h2 (by simp)
  | top => exact absurd h1 (by simp)
  | coe r => exact ⟨r, rfl, abs_le.mpr ⟨by rw [← EReal.coe_neg, EReal.coe_le_coe_iff] at h2; linarith, by rwa [EReal.coe_le_coe_iff] at h1⟩⟩

/-- What the precondition says. -/
theorem small [Facts] (x : FVec Ideal S50x64x48x48 .f32) (w : FVec Ideal S64x384x1x1 .f32) (u : FVec Ideal S64x128x3x3 .f32)
    (h : fn (F := Ideal) x w u = fun _ => 1#1) : Small x := fun i => by
  have e : BitVec.ofBool (decide (max (x i) (-(x i)) ≤ Ideal.ofBits .f32 0x5C800000#32)) = 1#1 := congrFun h i
  refine real_of_abs_le (x i) _ ?_
  rw [← bound]
  by_contra hn
  rw [decide_eq_false hn] at e
  exact absurd e (by decide)

end Cert.Pre_bounded

end
-- ==== Proof.lean ====
/-
  The proof of `Cert.Claim`: the frames of the kernel, its idealization and the reference, and the equality of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments unchanged and declares no semaphore. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- From equal arguments with bounded features the kernel and the reference end with equal results. -/
theorem algebraic : Cert.algebraic_KernelIdeal_ReferenceIdeal_pre_bounded (hPre_bounded := Cert.Pre_bounded.facts) := by
  intro m g m' g' hpre hagree
  refine ⟨fun c => Cert.KernelIdeal.Hand.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m g, ?_⟩
  refine (θ_run Cert.ReferenceIdeal.defs _ _).mono (fun _ h c => ⟨(h c).1.trans ?_, (h c).2⟩)
    (Cert.ReferenceIdeal.Value.run (F := Ideal) m' g')
  refine (Cert.ReferenceIdeal.Read.val_main_v131_eq (F := Ideal) (StableHlo.launchContents m' c)).trans ?_
  show Cert.ReferenceIdeal.Read.val_main_v131 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) = _
  rw [(hagree c).1, (hagree c).2.1, (hagree c).2.2]
  exact Cert.ReferenceIdeal.Hand.result_eq _ _ _ (@Cert.Pre_bounded.small Cert.Pre_bounded.facts _ _ _ (hpre c))

theorem claim : Cert.Claim :=
  ⟨Cert.Kernel.Gen.facts, Cert.KernelIdeal.Gen.facts, Cert.ReferenceIdeal.Gen.facts, Cert.Pre_bounded.facts,
    fun m g _ => Cert.Kernel.Gen.frame m g, fun m g _ => Cert.KernelIdeal.Gen.frame m g,
    fun m g _ => Cert.KernelIdeal.Gen.frame m g, fun m g _ => reference_runs m g, fun m g _ => reference_runs m g,
    trivial, algebraic⟩

end Cert.Proof

end
